-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S8x512x2048 : Shape := ⟨3, ![8, 512, 2048]⟩
abbrev S7x96x2048 : Shape := ⟨3, ![7, 96, 2048]⟩
abbrev S7x80x2048 : Shape := ⟨3, ![7, 80, 2048]⟩
abbrev S6x7 : Shape := ⟨2, ![6, 7]⟩
abbrev S_ : Shape := ⟨0, ![]⟩
abbrev S512x512 : Shape := ⟨2, ![512, 512]⟩
abbrev S1x512x2048 : Shape := ⟨3, ![1, 512, 2048]⟩
abbrev S1x1 : Shape := ⟨2, ![1, 1]⟩
abbrev S1x96x2048 : Shape := ⟨3, ![1, 96, 2048]⟩
abbrev S96x2048 : Shape := ⟨2, ![96, 2048]⟩
abbrev S1x80x2048 : Shape := ⟨3, ![1, 80, 2048]⟩
abbrev S80x2048 : Shape := ⟨2, ![80, 2048]⟩

abbrev nBuf : Space → Nat
  | .hbm => 5
  | .vmem => 11
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S512x2048, .f32⟩
  | .local _ .vmem, ⟨3, _⟩ => ⟨S8x512x2048, .bf16⟩
  | .local _ .vmem, ⟨4, _⟩ => ⟨S512x2048, .fp8e4m3⟩
  | .local _ .vmem, ⟨5, _⟩ => ⟨S7x96x2048, .bf16⟩
  | .local _ .vmem, ⟨6, _⟩ => ⟨S7x96x2048, .bf16⟩
  | .local _ .vmem, ⟨7, _⟩ => ⟨S7x80x2048, .bf16⟩
  | .local _ .vmem, ⟨8, _⟩ => ⟨S7x80x2048, .bf16⟩
  | .local _ .vmem, ⟨9, _⟩ => ⟨S7x80x2048, .bf16⟩
  | .local _ .vmem, ⟨10, _⟩ => ⟨S7x80x2048, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  (ofTc nBuf bufTy 2 89 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c7_i32
  let c512_i32 : BitVec 32 := 512#32
  let v19 : BitVec 32 := Scalar.muli v18 c512_i32
  let v20 : Index := Scalar.indexCast v19
  let c0_13 : Index := 0#32
  ![v20.toNat, 0]
def k0_off2 (d0 : Dev nD) (c7_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c7_i32
  let v27 : Index := Scalar.indexCast v18
  let c0_16 : Index := 0#32
  let c0_17 : Index := 0#32
  ![v27.toNat, 0, 0]
def k0_off3 (d0 : Dev nD) (c7_i32_18 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c7_i32_18
  let c0_i32_29 : BitVec 32 := 0#32
  let c0_i32_30 : BitVec 32 := 0#32
  ![v31.toNat, 0, 0]
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v32 : BitVec 32 := Scalar.xori v2 c4_i32_19
  let c1_i32_25 : BitVec 32 := 1#32
  let v33 : BitVec 32 := Scalar.muli v32 c1_i32_25
  let v34 : BitVec 32 := Scalar.addi c0_i32_26 v33
  v34.toNat
def k0_off4 (d0 : Dev nD) (c7_i32_31 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.xori v2 c7_i32_31
  let c96_i32 : BitVec 32 := 96#32
  let c0_i32_42 : BitVec 32 := 0#32
  ![v43.toNat, 96, 0]
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v44 : BitVec 32 := Scalar.xori v2 c3_i32_32
  let c1_i32_38 : BitVec 32 := 1#32
  let v45 : BitVec 32 := Scalar.muli v44 c1_i32_38
  let v46 : BitVec 32 := Scalar.addi c0_i32_39 v45
  v46.toNat
def k0_off5 (d0 : Dev nD) (c7_i32_43 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.xori v2 c7_i32_43
  let c272_i32 : BitVec 32 := 272#32
  let c0_i32_54 : BitVec 32 := 0#32
  ![v55.toNat, 272, 0]
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v56 : BitVec 32 := Scalar.xori v2 c4_i32_44
  let c1_i32_50 : BitVec 32 := 1#32
  let v57 : BitVec 32 := Scalar.muli v56 c1_i32_50
  let v58 : BitVec 32 := Scalar.addi c0_i32_51 v57
  v58.toNat
def k0_off6 (d0 : Dev nD) (c7_i32_55 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v67 : BitVec 32 := Scalar.xori v2 c7_i32_55
  let c352_i32 : BitVec 32 := 352#32
  let c0_i32_66 : BitVec 32 := 0#32
  ![v67.toNat, 352, 0]
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v68 : BitVec 32 := Scalar.xori v2 c3_i32_56
  let c1_i32_62 : BitVec 32 := 1#32
  let v69 : BitVec 32 := Scalar.muli v68 c1_i32_62
  let v70 : BitVec 32 := Scalar.addi c0_i32_63 v69
  v70.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v93 : BitVec 32 := Scalar.xori v2 c3_i32_75
  let c1_i32_81 : BitVec 32 := 1#32
  let v94 : BitVec 32 := Scalar.muli v93 c1_i32_81
  let v95 : BitVec 32 := Scalar.addi c0_i32_82 v94
  v95.toNat
def k0_off7 (d0 : Dev nD) (c2_i32_87 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.xori v2 c2_i32_87
  let c192_i32 : BitVec 32 := 192#32
  let c0_i32_98 : BitVec 32 := 0#32
  ![v104.toNat, 192, 0]
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v105 : BitVec 32 := Scalar.xori v2 c1_i32_88
  let c1_i32_94 : BitVec 32 := 1#32
  let v106 : BitVec 32 := Scalar.muli v105 c1_i32_94
  let v107 : BitVec 32 := Scalar.addi c0_i32_95 v106
  v107.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v117 : BitVec 32 := Scalar.xori v2 c3_i32_100
  let c1_i32_106 : BitVec 32 := 1#32
  let v118 : BitVec 32 := Scalar.muli v117 c1_i32_106
  let v119 : BitVec 32 := Scalar.addi c0_i32_107 v118
  v119.toNat
def k0_off8 (d0 : Dev nD) (c2_i32_112 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v128 : BitVec 32 := Scalar.xori v2 c2_i32_112
  let c432_i32 : BitVec 32 := 432#32
  let c0_i32_122 : BitVec 32 := 0#32
  ![v128.toNat, 432, 0]
def k0_dev11 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v129 : BitVec 32 := Scalar.xori v2 c1_i32_113
  let c1_i32_118 : BitVec 32 := 1#32
  let v130 : BitVec 32 := Scalar.muli v129 c1_i32_118
  let v131 : BitVec 32 := Scalar.addi c0_i32_119 v130
  v131.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v154 : BitVec 32 := Scalar.xori v2 c4_i32_132
  let c1_i32_138 : BitVec 32 := 1#32
  let v155 : BitVec 32 := Scalar.muli v154 c1_i32_138
  let v156 : BitVec 32 := Scalar.addi c0_i32_139 v155
  v156.toNat
def k0_dev13 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v166 : BitVec 32 := Scalar.xori v2 c1_i32_145
  let c1_i32_151 : BitVec 32 := 1#32
  let v167 : BitVec 32 := Scalar.muli v166 c1_i32_151
  let v168 : BitVec 32 := Scalar.addi c0_i32_152 v167
  v168.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v178 : BitVec 32 := Scalar.xori v2 c4_i32_158
  let c1_i32_164 : BitVec 32 := 1#32
  let v179 : BitVec 32 := Scalar.muli v178 c1_i32_164
  let v180 : BitVec 32 := Scalar.addi c0_i32_165 v179
  v180.toNat
def k0_dev15 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_171 : BitVec 32 := 1#32
  let v190 : BitVec 32 := Scalar.xori v2 c1_i32_171
  let c1_i32_177 : BitVec 32 := 1#32
  let v191 : BitVec 32 := Scalar.muli v190 c1_i32_177
  let v192 : BitVec 32 := Scalar.addi c0_i32_178 v191
  v192.toNat
def k0_dev16 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_191 : BitVec 32 := 4#32
  let v215 : BitVec 32 := Scalar.xori v2 c4_i32_191
  let c1_i32_197 : BitVec 32 := 1#32
  let v216 : BitVec 32 := Scalar.muli v215 c1_i32_197
  let v217 : BitVec 32 := Scalar.addi c0_i32_198 v216
  v217.toNat
def k0_dev17 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_204 : BitVec 32 := 3#32
  let v227 : BitVec 32 := Scalar.xori v2 c3_i32_204
  let c1_i32_210 : BitVec 32 := 1#32
  let v228 : BitVec 32 := Scalar.muli v227 c1_i32_210
  let v229 : BitVec 32 := Scalar.addi c0_i32_211 v228
  v229.toNat
def k0_dev18 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_217 : BitVec 32 := 1#32
  let v239 : BitVec 32 := Scalar.xori v2 c1_i32_217
  let c1_i32_223 : BitVec 32 := 1#32
  let v240 : BitVec 32 := Scalar.muli v239 c1_i32_223
  let v241 : BitVec 32 := Scalar.addi c0_i32_224 v240
  v241.toNat
def k0_dev19 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_230 : BitVec 32 := 4#32
  let v251 : BitVec 32 := Scalar.xori v2 c4_i32_230
  let c1_i32_236 : BitVec 32 := 1#32
  let v252 : BitVec 32 := Scalar.muli v251 c1_i32_236
  let v253 : BitVec 32 := Scalar.addi c0_i32_237 v252
  v253.toNat
def k0_dev20 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_243 : BitVec 32 := 3#32
  let v263 : BitVec 32 := Scalar.xori v2 c3_i32_243
  let c1_i32_249 : BitVec 32 := 1#32
  let v264 : BitVec 32 := Scalar.muli v263 c1_i32_249
  let v265 : BitVec 32 := Scalar.addi c0_i32_250 v264
  v265.toNat
def k0_dev21 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_256 : BitVec 32 := 1#32
  let v275 : BitVec 32 := Scalar.xori v2 c1_i32_256
  let c1_i32_262 : BitVec 32 := 1#32
  let v276 : BitVec 32 := Scalar.muli v275 c1_i32_262
  let v277 : BitVec 32 := Scalar.addi c0_i32_263 v276
  v277.toNat
def k0_dev22 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v300 : BitVec 32 := Scalar.xori v2 c4_i32_277
  let c1_i32_283 : BitVec 32 := 1#32
  let v301 : BitVec 32 := Scalar.muli v300 c1_i32_283
  let v302 : BitVec 32 := Scalar.addi c0_i32_284 v301
  v302.toNat
def k0_dev23 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_290 : BitVec 32 := 4#32
  let v312 : BitVec 32 := Scalar.xori v2 c4_i32_290
  let c1_i32_296 : BitVec 32 := 1#32
  let v313 : BitVec 32 := Scalar.muli v312 c1_i32_296
  let v314 : BitVec 32 := Scalar.addi c0_i32_297 v313
  v314.toNat
def k0_dev24 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_311 : BitVec 32 := 3#32
  let v337 : BitVec 32 := Scalar.xori v2 c3_i32_311
  let c1_i32_317 : BitVec 32 := 1#32
  let v338 : BitVec 32 := Scalar.muli v337 c1_i32_317
  let v339 : BitVec 32 := Scalar.addi c0_i32_318 v338
  v339.toNat
def k0_dev25 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_324 : BitVec 32 := 3#32
  let v349 : BitVec 32 := Scalar.xori v2 c3_i32_324
  let c1_i32_330 : BitVec 32 := 1#32
  let v350 : BitVec 32 := Scalar.muli v349 c1_i32_330
  let v351 : BitVec 32 := Scalar.addi c0_i32_331 v350
  v351.toNat
def k0_dev26 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_345 : BitVec 32 := 1#32
  let v374 : BitVec 32 := Scalar.xori v2 c1_i32_345
  let c1_i32_351 : BitVec 32 := 1#32
  let v375 : BitVec 32 := Scalar.muli v374 c1_i32_351
  let v376 : BitVec 32 := Scalar.addi c0_i32_352 v375
  v376.toNat
def k0_dev27 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_358 : BitVec 32 := 1#32
  let v386 : BitVec 32 := Scalar.xori v2 c1_i32_358
  let c1_i32_364 : BitVec 32 := 1#32
  let v387 : BitVec 32 := Scalar.muli v386 c1_i32_364
  let v388 : BitVec 32 := Scalar.addi c0_i32_365 v387
  v388.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_370 : BitVec 32 := 512#32
  let v397 : BitVec 32 := Scalar.muli v2 c512_i32_370
  let v398 : Index := Scalar.indexCast v397
  let c0_371 : Index := 0#32
  ![v398.toNat, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v405 : Index := Scalar.indexCast v2
  let c0_375 : Index := 0#32
  let c0_376 : Index := 0#32
  ![v405.toNat, 0, 0]
def k0_off11 (d0 : Dev nD) (c3_i32_389 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v417 : BitVec 32 := Scalar.xori v2 c3_i32_389
  let v418 : Index := Scalar.indexCast v417
  let c0_390 : Index := 0#32
  let c0_391 : Index := 0#32
  ![v418.toNat, 0, 0]
def k0_off12 (d0 : Dev nD) (c1_i32_409 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v439 : BitVec 32 := Scalar.xori v2 c1_i32_409
  let v440 : Index := Scalar.indexCast v439
  let c96 : Index := 96#32
  let c0_410 : Index := 0#32
  ![v440.toNat, 96, 0]
def k0_off12_at (r : Fin 4) : BitVec 32 :=
  if r.val < 2 then
    if r.val < 1 then
      1#32
    else
      5#32
  else
    if r.val < 3 then
      0#32
    else
      4#32
def k0_off13 (d0 : Dev nD) (c4_i32_428 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v461 : BitVec 32 := Scalar.xori v2 c4_i32_428
  let v462 : Index := Scalar.indexCast v461
  let c192 : Index := 192#32
  let c0_429 : Index := 0#32
  ![v462.toNat, 192, 0]
def k0_off13_at (r : Fin 4) : BitVec 32 :=
  if r.val < 2 then
    if r.val < 1 then
      4#32
    else
      7#32
  else
    if r.val < 3 then
      0#32
    else
      3#32
def k0_off14 (d0 : Dev nD) (c3_i32_447 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v483 : BitVec 32 := Scalar.xori v2 c3_i32_447
  let v484 : Index := Scalar.indexCast v483
  let c272 : Index := 272#32
  let c0_448 : Index := 0#32
  ![v484.toNat, 272, 0]
def k0_off15 (d0 : Dev nD) (c1_i32_466 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v505 : BitVec 32 := Scalar.xori v2 c1_i32_466
  let v506 : Index := Scalar.indexCast v505
  let c352 : Index := 352#32
  let c0_467 : Index := 0#32
  ![v506.toNat, 352, 0]
def k0_off15_at (r : Fin 4) : BitVec 32 :=
  if r.val < 2 then
    if r.val < 1 then
      1#32
    else
      5#32
  else
    if r.val < 3 then
      0#32
    else
      4#32
def k0_off16 (d0 : Dev nD) (c4_i32_485 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v527 : BitVec 32 := Scalar.xori v2 c4_i32_485
  let v528 : Index := Scalar.indexCast v527
  let c432 : Index := 432#32
  let c0_486 : Index := 0#32
  ![v528.toNat, 432, 0]
def k0_off16_at (r : Fin 4) : BitVec 32 :=
  if r.val < 2 then
    if r.val < 1 then
      4#32
    else
      7#32
  else
    if r.val < 3 then
      0#32
    else
      3#32
def k0_dev28 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_612 : BitVec 32 := 3#32
  let v674 : BitVec 32 := Scalar.xori v2 c3_i32_612
  let c1_i32_618 : BitVec 32 := 1#32
  let v675 : BitVec 32 := Scalar.muli v674 c1_i32_618
  let v676 : BitVec 32 := Scalar.addi c0_i32_619 v675
  v676.toNat
def k0_dev29 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_625 : BitVec 32 := 3#32
  let v686 : BitVec 32 := Scalar.xori v2 c3_i32_625
  let c1_i32_631 : BitVec 32 := 1#32
  let v687 : BitVec 32 := Scalar.muli v686 c1_i32_631
  let v688 : BitVec 32 := Scalar.addi c0_i32_632 v687
  v688.toNat
def k0_dev30 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_638 : BitVec 32 := 1#32
  let v698 : BitVec 32 := Scalar.xori v2 c1_i32_638
  let c1_i32_644 : BitVec 32 := 1#32
  let v699 : BitVec 32 := Scalar.muli v698 c1_i32_644
  let v700 : BitVec 32 := Scalar.addi c0_i32_645 v699
  v700.toNat
def k0_dev31 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_651 : BitVec 32 := 1#32
  let v710 : BitVec 32 := Scalar.xori v2 c1_i32_651
  let c1_i32_657 : BitVec 32 := 1#32
  let v711 : BitVec 32 := Scalar.muli v710 c1_i32_657
  let v712 : BitVec 32 := Scalar.addi c0_i32_658 v711
  v712.toNat
def k0_dev32 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_664 : BitVec 32 := 4#32
  let v722 : BitVec 32 := Scalar.xori v2 c4_i32_664
  let c1_i32_670 : BitVec 32 := 1#32
  let v723 : BitVec 32 := Scalar.muli v722 c1_i32_670
  let v724 : BitVec 32 := Scalar.addi c0_i32_671 v723
  v724.toNat
def k0_dev33 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_677 : BitVec 32 := 4#32
  let v734 : BitVec 32 := Scalar.xori v2 c4_i32_677
  let c1_i32_683 : BitVec 32 := 1#32
  let v735 : BitVec 32 := Scalar.muli v734 c1_i32_683
  let v736 : BitVec 32 := Scalar.addi c0_i32_684 v735
  v736.toNat
def k0_dev34 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_690 : BitVec 32 := 3#32
  let v746 : BitVec 32 := Scalar.xori v2 c3_i32_690
  let c1_i32_696 : BitVec 32 := 1#32
  let v747 : BitVec 32 := Scalar.muli v746 c1_i32_696
  let v748 : BitVec 32 := Scalar.addi c0_i32_697 v747
  v748.toNat
def k0_dev35 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_703 : BitVec 32 := 3#32
  let v758 : BitVec 32 := Scalar.xori v2 c3_i32_703
  let c1_i32_709 : BitVec 32 := 1#32
  let v759 : BitVec 32 := Scalar.muli v758 c1_i32_709
  let v760 : BitVec 32 := Scalar.addi c0_i32_710 v759
  v760.toNat
def k0_dev36 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_716 : BitVec 32 := 1#32
  let v770 : BitVec 32 := Scalar.xori v2 c1_i32_716
  let c1_i32_722 : BitVec 32 := 1#32
  let v771 : BitVec 32 := Scalar.muli v770 c1_i32_722
  let v772 : BitVec 32 := Scalar.addi c0_i32_723 v771
  v772.toNat
def k0_dev37 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_729 : BitVec 32 := 1#32
  let v782 : BitVec 32 := Scalar.xori v2 c1_i32_729
  let c1_i32_735 : BitVec 32 := 1#32
  let v783 : BitVec 32 := Scalar.muli v782 c1_i32_735
  let v784 : BitVec 32 := Scalar.addi c0_i32_736 v783
  v784.toNat
def k0_dev38 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_742 : BitVec 32 := 4#32
  let v794 : BitVec 32 := Scalar.xori v2 c4_i32_742
  let c1_i32_748 : BitVec 32 := 1#32
  let v795 : BitVec 32 := Scalar.muli v794 c1_i32_748
  let v796 : BitVec 32 := Scalar.addi c0_i32_749 v795
  v796.toNat
def k0_dev39 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_755 : BitVec 32 := 4#32
  let v806 : BitVec 32 := Scalar.xori v2 c4_i32_755
  let c1_i32_761 : BitVec 32 := 1#32
  let v807 : BitVec 32 := Scalar.muli v806 c1_i32_761
  let v808 : BitVec 32 := Scalar.addi c0_i32_762 v807
  v808.toNat
def k0_dev40 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1025 : BitVec 32 := 1#32
  let v1104 : BitVec 32 := Scalar.xori v2 c1_i32_1025
  let c1_i32_1031 : BitVec 32 := 1#32
  let v1105 : BitVec 32 := Scalar.muli v1104 c1_i32_1031
  let v1106 : BitVec 32 := Scalar.addi c0_i32_1032 v1105
  v1106.toNat
def k0_dev41 (d0 : Dev nD) : Nat :=
  let c0_i32_1065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1058 : BitVec 32 := 4#32
  let v1138 : BitVec 32 := Scalar.xori v2 c4_i32_1058
  let c1_i32_1064 : BitVec 32 := 1#32
  let v1139 : BitVec 32 := Scalar.muli v1138 c1_i32_1064
  let v1140 : BitVec 32 := Scalar.addi c0_i32_1065 v1139
  v1140.toNat
def k0_dev42 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1091 : BitVec 32 := 3#32
  let v1172 : BitVec 32 := Scalar.xori v2 c3_i32_1091
  let c1_i32_1097 : BitVec 32 := 1#32
  let v1173 : BitVec 32 := Scalar.muli v1172 c1_i32_1097
  let v1174 : BitVec 32 := Scalar.addi c0_i32_1098 v1173
  v1174.toNat
def k0_dev43 (d0 : Dev nD) : Nat :=
  let c0_i32_1131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1206 : BitVec 32 := Scalar.xori v2 c1_i32_1124
  let c1_i32_1130 : BitVec 32 := 1#32
  let v1207 : BitVec 32 := Scalar.muli v1206 c1_i32_1130
  let v1208 : BitVec 32 := Scalar.addi c0_i32_1131 v1207
  v1208.toNat
def k0_dev44 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1157 : BitVec 32 := 4#32
  let v1240 : BitVec 32 := Scalar.xori v2 c4_i32_1157
  let c1_i32_1163 : BitVec 32 := 1#32
  let v1241 : BitVec 32 := Scalar.muli v1240 c1_i32_1163
  let v1242 : BitVec 32 := Scalar.addi c0_i32_1164 v1241
  v1242.toNat
def k0_dev45 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1190 : BitVec 32 := 3#32
  let v1274 : BitVec 32 := Scalar.xori v2 c3_i32_1190
  let c1_i32_1196 : BitVec 32 := 1#32
  let v1275 : BitVec 32 := Scalar.muli v1274 c1_i32_1196
  let v1276 : BitVec 32 := Scalar.addi c0_i32_1197 v1275
  v1276.toNat
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1428 : Index := Scalar.indexCast v2
  let c0_1335 : Index := 0#32
  let c0_1336 : Index := 0#32
  ![v1428.toNat, 0, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1449 : Index := Scalar.indexCast v2
  let c96_1354 : Index := 96#32
  let c0_1355 : Index := 0#32
  ![v1449.toNat, 96, 0]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1470 : Index := Scalar.indexCast v2
  let c192_1374 : Index := 192#32
  let c0_1375 : Index := 0#32
  ![v1470.toNat, 192, 0]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1491 : Index := Scalar.indexCast v2
  let c272_1394 : Index := 272#32
  let c0_1395 : Index := 0#32
  ![v1491.toNat, 272, 0]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1512 : Index := Scalar.indexCast v2
  let c352_1414 : Index := 352#32
  let c0_1415 : Index := 0#32
  ![v1512.toNat, 352, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1533 : Index := Scalar.indexCast v2
  let c432_1434 : Index := 432#32
  let c0_1435 : Index := 0#32
  ![v1533.toNat, 432, 0]
def k0_dev46 (d0 : Dev nD) : Nat :=
  let c0_i32_1865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1862 : BitVec 32 := 1#32
  let v1798 : BitVec 32 := Scalar.xori v2 c1_i32_1862
  let c1_i32_1864 : BitVec 32 := 1#32
  let v1799 : BitVec 32 := Scalar.muli v1798 c1_i32_1864
  let v1800 : BitVec 32 := Scalar.addi c0_i32_1865 v1799
  v1800.toNat
def k0_dev47 (d0 : Dev nD) : Nat :=
  let c0_i32_1869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1866 : BitVec 32 := 3#32
  let v1801 : BitVec 32 := Scalar.xori v2 c3_i32_1866
  let c1_i32_1868 : BitVec 32 := 1#32
  let v1802 : BitVec 32 := Scalar.muli v1801 c1_i32_1868
  let v1803 : BitVec 32 := Scalar.addi c0_i32_1869 v1802
  v1803.toNat
def k0_dev48 (d0 : Dev nD) : Nat :=
  let c0_i32_1873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1870 : BitVec 32 := 4#32
  let v1804 : BitVec 32 := Scalar.xori v2 c4_i32_1870
  let c1_i32_1872 : BitVec 32 := 1#32
  let v1805 : BitVec 32 := Scalar.muli v1804 c1_i32_1872
  let v1806 : BitVec 32 := Scalar.addi c0_i32_1873 v1805
  v1806.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ops.lean ====
/- The kernel's body as a list of operations.  The printed text is long, but every statement of it is one of
   five shapes: fill a chunk of the accumulator with a product, send a piece of it to a partner, wait for a
   piece from a partner and add it on, write a piece of the result, wait for a send.  The body IS the list's
   run (`body_eq`), so that the run needs one lemma per shape. -/
module

public import proofs.«01_k».proof.Proof.Gen.KernelIdeal.Launch
public import proofs.«01_k».proof.Proof.Gen.KernelIdeal.Skeleton
public import proofs.«01_k».proof.Proof.Gen.KernelIdeal.Points

@[expose] public section

namespace Cert.KernelIdeal.Run

open Idealize.ShloMosaic Idealize.ShloMosaic.StableHlo Idealize.SL.Sem
open Cert.KernelIdeal Cert.KernelIdeal.Gen

variable {F : FTy → Type} [FloatOps F]

/-! ## The row groups -/

/-- How many rows of a chunk a group has. -/
def rlen : Fin 6 → ℕ
  | 0 => 96 | 1 => 96 | 2 => 80 | 3 => 80 | 4 => 80 | 5 => 80

/-- The first row of a group. -/
def roff : Fin 6 → ℕ
  | 0 => 0 | 1 => 96 | 2 => 192 | 3 => 272 | 4 => 352 | 5 => 432

/-- A group's piece of a chunk, as the memory holds it. -/
abbrev P3 (g : Fin 6) : Shape := ⟨3, ![1, rlen g, 2048]⟩
/-- The piece as a matrix. -/
abbrev P2 (g : Fin 6) : Shape := ⟨2, ![rlen g, 2048]⟩
/-- The landing buffer of a group: seven slots. -/
abbrev R3 (g : Fin 6) : Shape := ⟨3, ![7, rlen g, 2048]⟩

theorem rlen_pos (g : Fin 6) : 0 < rlen g := by revert g; decide
theorem P3_pos (g : Fin 6) : 0 < (P3 g).numel := by revert g; decide
theorem P2_pos (g : Fin 6) : 0 < (P2 g).numel := by revert g; decide
theorem P3_P2 (g : Fin 6) : (P3 g).ShapeCasts (P2 g) := by revert g; decide
theorem P2_P3 (g : Fin 6) : (P2 g).ShapeCasts (P3 g) := by revert g; decide
theorem P3_sq (g : Fin 6) : (P3 g).Squeezes (P2 g) := by revert g; decide

/-! ## Buffers and cells -/

/-- The accumulator: eight chunks of 512 rows. -/
abbrev accM : Memref sig .tc .vmem S8x512x2048 .bf16 := Memref.whole cc0_scratch0
abbrev wM : Memref sig .tc .vmem S512x2048 .fp8e4m3 := Memref.whole cc0_scratch1
abbrev xS : Memref sig .tc .vmem S4096x512 .fp8e4m3 := Memref.whole cc0_stg0_0
abbrev wS : Memref sig .tc .vmem S512x2048 .fp8e4m3 := Memref.whole cc0_stg1_0
abbrev sxS : Memref sig .tc .smem S1 .f32 := Memref.whole cc0_stg2_0
abbrev swS : Memref sig .tc .smem S1 .f32 := Memref.whole cc0_stg3_0
abbrev outS : Memref sig .tc .vmem S512x2048 .f32 := Memref.whole cc0_stg4_0

/-- The landing buffer of a group. -/
def rcvM : (g : Fin 6) → Memref sig .tc .vmem (R3 g) .bf16
  | 0 => (Memref.whole cc0_scratch2 : Memref sig .tc .vmem S7x96x2048 .bf16)
  | 1 => (Memref.whole cc0_scratch3 : Memref sig .tc .vmem S7x96x2048 .bf16)
  | 2 => (Memref.whole cc0_scratch4 : Memref sig .tc .vmem S7x80x2048 .bf16)
  | 3 => (Memref.whole cc0_scratch5 : Memref sig .tc .vmem S7x80x2048 .bf16)
  | 4 => (Memref.whole cc0_scratch6 : Memref sig .tc .vmem S7x80x2048 .bf16)
  | 5 => (Memref.whole cc0_scratch7 : Memref sig .tc .vmem S7x80x2048 .bf16)

theorem rcvM_whole (g : Fin 6) : (rcvM g).IsWhole :=
  match g with
  | 0 => Memref.isWhole_whole _ | 1 => Memref.isWhole_whole _ | 2 => Memref.isWhole_whole _
  | 3 => Memref.isWhole_whole _ | 4 => Memref.isWhole_whole _ | 5 => Memref.isWhole_whole _

/-- A piece at offsets `o` lies in the accumulator. -/
abbrev InAcc (g : Fin 6) (o : Fin 3 → ℕ) : Prop := ∀ a, o a + (P3 g).size a ≤ S8x512x2048.size a

/-- The rectangle of a piece of the accumulator at offsets `o`. -/
abbrev accR (g : Fin 6) (o : Fin 3 → ℕ) (ho : InAcc g o) : Rect S8x512x2048 :=
  Rect.unit (s := S8x512x2048) o (P3 g).size ho

theorem slot_inb (g : Fin 6) (s : Fin 7) : ∀ a, (![s.val, 0, 0] : Fin 3 → ℕ) a + (P3 g).size a ≤ (R3 g).size a := by
  revert g s; decide

/-- The rectangle of a slot of a landing buffer. -/
abbrev slotR (g : Fin 6) (s : Fin 7) : Rect (R3 g) := Rect.unit (s := R3 g) ![s.val, 0, 0] (P3 g).size (slot_inb g s)

theorem slot_words (g : Fin 6) (s : Fin 7) : (slotR g s).WholeWords (EltTy.packing .bf16) := by
  revert g s; decide

/-- The piece of the accumulator at offsets `o`, as a matrix. -/
abbrev accP (g : Fin 6) (o : Fin 3 → ℕ) (ho : InAcc g o) : Memref sig .tc .vmem (P2 g) .bf16 :=
  (accM.slice (accR g o ho) (fun _ => rfl)).squeeze (P2 g) (P3_sq g)

/-- Slot `s` of group `g`'s landing buffer, as a matrix. -/
abbrev slotP (g : Fin 6) (s : Fin 7) : Memref sig .tc .vmem (P2 g) .bf16 :=
  ((rcvM g).slice (slotR g s) (fun _ => rfl)).squeeze (P2 g) (P3_sq g)

theorem slotP_words (g : Fin 6) (s : Fin 7) : (slotP g s).view.WordExact :=
  ((rcvM_whole g).wordExact_slice rfl _ (slot_words g s)).reshape _ _

theorem accP_words (g : Fin 6) (o : Fin 3 → ℕ) (ho : InAcc g o)
    (hw : (accR g o ho).WholeWords (EltTy.packing .bf16)) : (accP g o ho).view.WordExact :=
  ((Memref.isWhole_whole cc0_scratch0).wordExact_slice rfl _ hw).reshape _ _

theorem sem_inb (g : Fin 6) (s : Fin 7) : ∀ a, (![g.val, s.val] : Fin 2 → ℕ) a + S1x1.size a ≤ S6x7.size a := by
  revert g s; decide

/-- The cell the send of slot `s` of group `g` raises on the sender. -/
abbrev sndSem (g : Fin 6) (s : Fin 7) : DmaSem sig :=
  ((cc0_scratch8.slice (Rect.unit (s := S6x7) ![g.val, s.val] S1x1.size (sem_inb g s))).squeeze S_ squeezes_S1x1_S_).sem

/-- The cell the landing of slot `s` of group `g` raises on the receiver. -/
abbrev rcvSem (g : Fin 6) (s : Fin 7) : DmaSem sig :=
  ((cc0_scratch9.slice (Rect.unit (s := S6x7) ![g.val, s.val] S1x1.size (sem_inb g s))).squeeze S_ squeezes_S1x1_S_).sem

/-! ## What is computed -/

/-- A chunk's product, rounded to the accumulator's type. -/
noncomputable def gemmV (xv : Vec F S512x512 .fp8e4m3) (wv : Vec F S512x2048 .fp8e4m3) : FVec F S1x512x2048 .bf16 :=
  k0_pay6 xv wv

/-- Two pieces added in the wide type and rounded again. -/
noncomputable def comb (g : Fin 6) (a b : Vec F (P3 g) .bf16) : FVec F (P3 g) .bf16 :=
  shapeCast (P3 g) (truncf .bf16 (addf (extf .f32 (shapeCast (P2 g) a (P3_P2 g) : FVec F (P2 g) .bf16) bitsLt_bf16_f32)
    (extf .f32 (shapeCast (P2 g) b (P3_P2 g) : FVec F (P2 g) .bf16) bitsLt_bf16_f32)) bitsLt_bf16_f32) (P2_P3 g)

/-- The last sum, scaled and cut off below at zero. -/
noncomputable def finV (sc : F .f32) (g : Fin 6) (a b : Vec F (P3 g) .bf16) : FVec F (P2 g) .f32 :=
  maximumf (mulf (addf (extf .f32 (shapeCast (P2 g) a (P3_P2 g) : FVec F (P2 g) .bf16) bitsLt_bf16_f32)
    (extf .f32 (shapeCast (P2 g) b (P3_P2 g) : FVec F (P2 g) .bf16) bitsLt_bf16_f32)) (broadcast (P2 g) sc))
    (broadcast (P2 g) (Scalar.ofBits .f32 0x00000000#32))

/-! ## The operations -/

/-- One operation of the kernel's body, with the offsets as the text computes them. -/
inductive Op where
  /-- Fill chunk `oa` with the product of the rows at `ox` with the weights. -/
  | gemm (ox : Fin 2 → ℕ) (hx : ∀ a, ox a + S512x512.size a ≤ S4096x512.size a) (oa : Fin 3 → ℕ)
      (ha : ∀ a, oa a + S1x512x2048.size a ≤ S8x512x2048.size a)
      (hp : (Rect.unit (s := S8x512x2048) oa S1x512x2048.size ha).PackedRows (EltTy.packing .bf16))
  /-- Send the piece at `o` to slot `s` of device `n`. -/
  | send (g : Fin 6) (s : Fin 7) (o : Fin 3 → ℕ) (ho : InAcc g o)
      (hw : (accR g o ho).WholeWords (EltTy.packing .bf16)) (n : Dev nD)
  /-- Wait for slot `s` and add it onto the piece at `o`. -/
  | wacc (g : Fin 6) (s : Fin 7) (o : Fin 3 → ℕ) (ho : InAcc g o)
      (hp : (accR g o ho).PackedRows (EltTy.packing .bf16))
  /-- Wait for the last slot and write the group's rows of the result. -/
  | fin (g : Fin 6) (o : Fin 3 → ℕ) (ho : InAcc g o)
  /-- Wait for the send of slot `s` to have been read. -/
  | wsend (g : Fin 6) (s : Fin 7) (o : Fin 3 → ℕ) (ho : InAcc g o)
      (hw : (accR g o ho).WholeWords (EltTy.packing .bf16))

theorem out_inb (g : Fin 6) : ∀ a, (![roff g, 0] : Fin 2 → ℕ) a + (P2 g).size a ≤ S512x2048.size a := by
  revert g; decide

/-- The rows of the result a group writes. -/
abbrev outR (g : Fin 6) : Rect S512x2048 := Rect.unit (s := S512x2048) ![roff g, 0] (P2 g).size (out_inb g)

/-- The whole of the weights' copy. -/
abbrev wR : Rect S512x2048 := Rect.unit (s := S512x2048) ![0, 0] S512x2048.size inb_S512x2048_S512x2048_0_0

/-- An operation's program, `sc` being the product of the two scales. -/
noncomputable def Op.run (sc : F .f32) : Op → Prog (TpuEff nD τ sig (Elt F) Λ₀ .tc) PUnit
  | .gemm ox hx oa ha hp => do
    let xv : Vec F S512x512 .fp8e4m3 ← Prog.lift (.load xS (Rect.unit (s := S4096x512) ox S512x512.size hx).toLoadRect (View.loadsAt_vmem h_S512x512))
    let wv : Vec F S512x2048 .fp8e4m3 ← Prog.lift (.load wM wR.toLoadRect (View.loadsAt_vmem h_S512x2048))
    let _ : Vec F S1x512x2048 .bf16 ← Prog.lift (.load accM (Rect.unit (s := S8x512x2048) oa S1x512x2048.size ha).toLoadRect (View.loadsAt_vmem h_S1x512x2048))
    Prog.lift (.store accM (Rect.unit (s := S8x512x2048) oa S1x512x2048.size ha) (gemmV xv wv) Finset.univ (View.stores_vmem h_S1x512x2048 ((Memref.isWhole_whole cc0_scratch0).storeExact_slice rfl _ hp) (fun _ => rfl)) (.inl rfl))
  | .send g s o ho hw n =>
    Prog.lift (.enqueueDma (accP g o ho) (.remote (Dev.tc n) (slotP g s) (.dma (sndSem g s))) (.dma (rcvSem g s)) (accP_words g o ho hw) (slotP_words g s) ⟨⟨rfl, Or.inl rfl⟩, trivial⟩)
  | .wacc g s o ho hp => do
    Prog.lift (.waitDma2 (rcvSem g s) (slotP g s) (slotP g s) (slotP_words g s) (slotP_words g s))
    let a : Vec F (P3 g) .bf16 ← Prog.lift (.load accM (accR g o ho).toLoadRect (View.loadsAt_vmem (P3_pos g)))
    let b : Vec F (P3 g) .bf16 ← Prog.lift (.load (rcvM g) (slotR g s).toLoadRect (View.loadsAt_vmem (P3_pos g)))
    let _ : Vec F (P3 g) .bf16 ← Prog.lift (.load accM (accR g o ho).toLoadRect (View.loadsAt_vmem (P3_pos g)))
    Prog.lift (.store accM (accR g o ho) (comb g a b) Finset.univ (View.stores_vmem (P3_pos g) ((Memref.isWhole_whole cc0_scratch0).storeExact_slice rfl _ hp) (fun _ => rfl)) (.inl rfl))
  | .fin g o ho => do
    Prog.lift (.waitDma2 (rcvSem g 6) (slotP g 6) (slotP g 6) (slotP_words g 6) (slotP_words g 6))
    let a : Vec F (P3 g) .bf16 ← Prog.lift (.load accM (accR g o ho).toLoadRect (View.loadsAt_vmem (P3_pos g)))
    let b : Vec F (P3 g) .bf16 ← Prog.lift (.load (rcvM g) (slotR g 6).toLoadRect (View.loadsAt_vmem (P3_pos g)))
    let _ : Vec F (P2 g) .f32 ← Prog.lift (.load outS (outR g).toLoadRect (View.loadsAt_vmem (P2_pos g)))
    Prog.lift (.store outS (outR g) (finV sc g a b) Finset.univ (View.stores_vmem_bits_univ (P2_pos g) rfl) (.inl rfl))
  | .wsend g s o ho hw =>
    Prog.lift (.waitDma2 (sndSem g s) (slotP g s) (accP g o ho) (slotP_words g s) (accP_words g o ho hw))

/-- A list of operations in turn. -/
noncomputable def runAll (sc : F .f32) : List Op → Prog (TpuEff nD τ sig (Elt F) Λ₀ .tc) PUnit
  | [] => pure ⟨⟩
  | o :: os => o.run sc >>= fun _ => runAll sc os

/-- The products, the sends and the sums. -/
def ops1 (c : Dev nD) : List Op := [
  .gemm (k0_off1 c 7#32) (k0_off1_inb c 6) (k0_off2 c 7#32) (k0_off2_inb c 6) (k0_off2_packedbf16 c 6),
  .send 0 0 (k0_off3 c 7#32) (k0_off3_inb c 6) (k0_off3_wordsbf16 c 6) ⟨k0_dev4 c, k0_dev4_lt c⟩,
  .send 1 3 (k0_off4 c 7#32) (k0_off4_inb c 6) (k0_off4_wordsbf16 c 6) ⟨k0_dev5 c, k0_dev5_lt c⟩,
  .send 3 0 (k0_off5 c 7#32) (k0_off5_inb c 6) (k0_off5_wordsbf16 c 6) ⟨k0_dev6 c, k0_dev6_lt c⟩,
  .send 4 3 (k0_off6 c 7#32) (k0_off6_inb c 6) (k0_off6_wordsbf16 c 6) ⟨k0_dev7 c, k0_dev7_lt c⟩,
  .gemm (k0_off1 c 2#32) (k0_off1_inb c 1) (k0_off2 c 2#32) (k0_off2_inb c 1) (k0_off2_packedbf16 c 1),
  .send 1 0 (k0_off4 c 2#32) (k0_off4_inb c 1) (k0_off4_wordsbf16 c 1) ⟨k0_dev8 c, k0_dev8_lt c⟩,
  .send 2 3 (k0_off7 c 2#32) (k0_off7_inb c 1) (k0_off7_wordsbf16 c 1) ⟨k0_dev9 c, k0_dev9_lt c⟩,
  .send 4 0 (k0_off6 c 2#32) (k0_off6_inb c 1) (k0_off6_wordsbf16 c 1) ⟨k0_dev10 c, k0_dev10_lt c⟩,
  .send 5 3 (k0_off8 c 2#32) (k0_off8_inb c 1) (k0_off8_wordsbf16 c 1) ⟨k0_dev11 c, k0_dev11_lt c⟩,
  .gemm (k0_off1 c 5#32) (k0_off1_inb c 4) (k0_off2 c 5#32) (k0_off2_inb c 4) (k0_off2_packedbf16 c 4),
  .send 0 3 (k0_off3 c 5#32) (k0_off3_inb c 4) (k0_off3_wordsbf16 c 4) ⟨k0_dev12 c, k0_dev12_lt c⟩,
  .send 2 0 (k0_off7 c 5#32) (k0_off7_inb c 4) (k0_off7_wordsbf16 c 4) ⟨k0_dev13 c, k0_dev13_lt c⟩,
  .send 3 3 (k0_off5 c 5#32) (k0_off5_inb c 4) (k0_off5_wordsbf16 c 4) ⟨k0_dev14 c, k0_dev14_lt c⟩,
  .send 5 0 (k0_off8 c 5#32) (k0_off8_inb c 4) (k0_off8_wordsbf16 c 4) ⟨k0_dev15 c, k0_dev15_lt c⟩,
  .gemm (k0_off1 c 6#32) (k0_off1_inb c 5) (k0_off2 c 6#32) (k0_off2_inb c 5) (k0_off2_packedbf16 c 5),
  .send 0 1 (k0_off3 c 6#32) (k0_off3_inb c 5) (k0_off3_wordsbf16 c 5) ⟨k0_dev16 c, k0_dev16_lt c⟩,
  .send 1 1 (k0_off4 c 6#32) (k0_off4_inb c 5) (k0_off4_wordsbf16 c 5) ⟨k0_dev17 c, k0_dev17_lt c⟩,
  .send 2 1 (k0_off7 c 6#32) (k0_off7_inb c 5) (k0_off7_wordsbf16 c 5) ⟨k0_dev18 c, k0_dev18_lt c⟩,
  .send 3 1 (k0_off5 c 6#32) (k0_off5_inb c 5) (k0_off5_wordsbf16 c 5) ⟨k0_dev19 c, k0_dev19_lt c⟩,
  .send 4 1 (k0_off6 c 6#32) (k0_off6_inb c 5) (k0_off6_wordsbf16 c 5) ⟨k0_dev20 c, k0_dev20_lt c⟩,
  .send 5 1 (k0_off8 c 6#32) (k0_off8_inb c 5) (k0_off8_wordsbf16 c 5) ⟨k0_dev21 c, k0_dev21_lt c⟩,
  .gemm (k0_off1 c 4#32) (k0_off1_inb c 3) (k0_off2 c 4#32) (k0_off2_inb c 3) (k0_off2_packedbf16 c 3),
  .send 0 2 (k0_off3 c 4#32) (k0_off3_inb c 3) (k0_off3_wordsbf16 c 3) ⟨k0_dev22 c, k0_dev22_lt c⟩,
  .send 3 2 (k0_off5 c 4#32) (k0_off5_inb c 3) (k0_off5_wordsbf16 c 3) ⟨k0_dev23 c, k0_dev23_lt c⟩,
  .gemm (k0_off1 c 3#32) (k0_off1_inb c 2) (k0_off2 c 3#32) (k0_off2_inb c 2) (k0_off2_packedbf16 c 2),
  .send 1 2 (k0_off4 c 3#32) (k0_off4_inb c 2) (k0_off4_wordsbf16 c 2) ⟨k0_dev24 c, k0_dev24_lt c⟩,
  .send 4 2 (k0_off6 c 3#32) (k0_off6_inb c 2) (k0_off6_wordsbf16 c 2) ⟨k0_dev25 c, k0_dev25_lt c⟩,
  .gemm (k0_off1 c 1#32) (k0_off1_inb c 0) (k0_off2 c 1#32) (k0_off2_inb c 0) (k0_off2_packedbf16 c 0),
  .send 2 2 (k0_off7 c 1#32) (k0_off7_inb c 0) (k0_off7_wordsbf16 c 0) ⟨k0_dev26 c, k0_dev26_lt c⟩,
  .send 5 2 (k0_off8 c 1#32) (k0_off8_inb c 0) (k0_off8_wordsbf16 c 0) ⟨k0_dev27 c, k0_dev27_lt c⟩,
  .gemm (k0_off9 c) (k0_off9_inb c) (k0_off10 c) (k0_off10_inb c) (k0_off10_packedbf16 c),
  .wacc 0 0 (k0_off11 c 3#32) (k0_off11_inb c 3) (k0_off11_packedbf16 c 3),
  .wacc 1 0 (k0_off12 c 1#32) (k0_off12_inb c 0) (k0_off12_packedbf16 c 0),
  .wacc 2 0 (k0_off13 c 4#32) (k0_off13_inb c 0) (k0_off13_packedbf16 c 0),
  .wacc 3 0 (k0_off14 c 3#32) (k0_off14_inb c 3) (k0_off14_packedbf16 c 3),
  .wacc 4 0 (k0_off15 c 1#32) (k0_off15_inb c 0) (k0_off15_packedbf16 c 0),
  .wacc 5 0 (k0_off16 c 4#32) (k0_off16_inb c 0) (k0_off16_packedbf16 c 0),
  .wacc 0 1 (k0_off11 c 2#32) (k0_off11_inb c 2) (k0_off11_packedbf16 c 2),
  .wacc 1 1 (k0_off12 c 5#32) (k0_off12_inb c 1) (k0_off12_packedbf16 c 1),
  .wacc 2 1 (k0_off13 c 7#32) (k0_off13_inb c 1) (k0_off13_packedbf16 c 1),
  .wacc 3 1 (k0_off14 c 2#32) (k0_off14_inb c 2) (k0_off14_packedbf16 c 2),
  .wacc 4 1 (k0_off15 c 5#32) (k0_off15_inb c 1) (k0_off15_packedbf16 c 1),
  .wacc 5 1 (k0_off16 c 7#32) (k0_off16_inb c 1) (k0_off16_packedbf16 c 1),
  .send 0 4 (k0_off3 c 2#32) (k0_off3_inb c 1) (k0_off3_wordsbf16 c 1) ⟨k0_dev28 c, k0_dev28_lt c⟩,
  .send 0 5 (k0_off3 c 3#32) (k0_off3_inb c 2) (k0_off3_wordsbf16 c 2) ⟨k0_dev29 c, k0_dev29_lt c⟩,
  .send 1 4 (k0_off4 c 5#32) (k0_off4_inb c 4) (k0_off4_wordsbf16 c 4) ⟨k0_dev30 c, k0_dev30_lt c⟩,
  .send 1 5 (k0_off4 c 1#32) (k0_off4_inb c 0) (k0_off4_wordsbf16 c 0) ⟨k0_dev31 c, k0_dev31_lt c⟩,
  .send 2 4 (k0_off7 c 7#32) (k0_off7_inb c 6) (k0_off7_wordsbf16 c 6) ⟨k0_dev32 c, k0_dev32_lt c⟩,
  .send 2 5 (k0_off7 c 4#32) (k0_off7_inb c 3) (k0_off7_wordsbf16 c 3) ⟨k0_dev33 c, k0_dev33_lt c⟩,
  .send 3 4 (k0_off5 c 2#32) (k0_off5_inb c 1) (k0_off5_wordsbf16 c 1) ⟨k0_dev34 c, k0_dev34_lt c⟩,
  .send 3 5 (k0_off5 c 3#32) (k0_off5_inb c 2) (k0_off5_wordsbf16 c 2) ⟨k0_dev35 c, k0_dev35_lt c⟩,
  .send 4 4 (k0_off6 c 5#32) (k0_off6_inb c 4) (k0_off6_wordsbf16 c 4) ⟨k0_dev36 c, k0_dev36_lt c⟩,
  .send 4 5 (k0_off6 c 1#32) (k0_off6_inb c 0) (k0_off6_wordsbf16 c 0) ⟨k0_dev37 c, k0_dev37_lt c⟩,
  .send 5 4 (k0_off8 c 7#32) (k0_off8_inb c 6) (k0_off8_wordsbf16 c 6) ⟨k0_dev38 c, k0_dev38_lt c⟩,
  .send 5 5 (k0_off8 c 4#32) (k0_off8_inb c 3) (k0_off8_wordsbf16 c 3) ⟨k0_dev39 c, k0_dev39_lt c⟩,
  .wacc 0 2 (k0_off11 c 0#32) (k0_off11_inb c 0) (k0_off11_packedbf16 c 0),
  .wacc 1 2 (k0_off12 c 0#32) (k0_off12_inb c 2) (k0_off12_packedbf16 c 2),
  .wacc 2 2 (k0_off13 c 0#32) (k0_off13_inb c 2) (k0_off13_packedbf16 c 2),
  .wacc 3 2 (k0_off14 c 0#32) (k0_off14_inb c 0) (k0_off14_packedbf16 c 0),
  .wacc 4 2 (k0_off15 c 0#32) (k0_off15_inb c 2) (k0_off15_packedbf16 c 2),
  .wacc 5 2 (k0_off16 c 0#32) (k0_off16_inb c 2) (k0_off16_packedbf16 c 2),
  .wacc 0 3 (k0_off11 c 1#32) (k0_off11_inb c 1) (k0_off11_packedbf16 c 1),
  .wacc 1 3 (k0_off12 c 4#32) (k0_off12_inb c 3) (k0_off12_packedbf16 c 3),
  .wacc 2 3 (k0_off13 c 3#32) (k0_off13_inb c 3) (k0_off13_packedbf16 c 3),
  .wacc 3 3 (k0_off14 c 1#32) (k0_off14_inb c 1) (k0_off14_packedbf16 c 1),
  .wacc 4 3 (k0_off15 c 4#32) (k0_off15_inb c 3) (k0_off15_packedbf16 c 3),
  .wacc 5 3 (k0_off16 c 3#32) (k0_off16_inb c 3) (k0_off16_packedbf16 c 3),
  .wacc 0 4 (k0_off11 c 1#32) (k0_off11_inb c 1) (k0_off11_packedbf16 c 1),
  .send 0 6 (k0_off3 c 1#32) (k0_off3_inb c 0) (k0_off3_wordsbf16 c 0) ⟨k0_dev40 c, k0_dev40_lt c⟩,
  .wacc 1 4 (k0_off12 c 4#32) (k0_off12_inb c 3) (k0_off12_packedbf16 c 3),
  .send 1 6 (k0_off4 c 4#32) (k0_off4_inb c 3) (k0_off4_wordsbf16 c 3) ⟨k0_dev41 c, k0_dev41_lt c⟩,
  .wacc 2 4 (k0_off13 c 3#32) (k0_off13_inb c 3) (k0_off13_packedbf16 c 3),
  .send 2 6 (k0_off7 c 3#32) (k0_off7_inb c 2) (k0_off7_wordsbf16 c 2) ⟨k0_dev42 c, k0_dev42_lt c⟩,
  .wacc 3 4 (k0_off14 c 1#32) (k0_off14_inb c 1) (k0_off14_packedbf16 c 1),
  .send 3 6 (k0_off5 c 1#32) (k0_off5_inb c 0) (k0_off5_wordsbf16 c 0) ⟨k0_dev43 c, k0_dev43_lt c⟩,
  .wacc 4 4 (k0_off15 c 4#32) (k0_off15_inb c 3) (k0_off15_packedbf16 c 3),
  .send 4 6 (k0_off6 c 4#32) (k0_off6_inb c 3) (k0_off6_wordsbf16 c 3) ⟨k0_dev44 c, k0_dev44_lt c⟩,
  .wacc 5 4 (k0_off16 c 3#32) (k0_off16_inb c 3) (k0_off16_packedbf16 c 3),
  .send 5 6 (k0_off8 c 3#32) (k0_off8_inb c 2) (k0_off8_wordsbf16 c 2) ⟨k0_dev45 c, k0_dev45_lt c⟩,
  .wacc 0 5 (k0_off11 c 0#32) (k0_off11_inb c 0) (k0_off11_packedbf16 c 0),
  .wacc 1 5 (k0_off12 c 0#32) (k0_off12_inb c 2) (k0_off12_packedbf16 c 2),
  .wacc 2 5 (k0_off13 c 0#32) (k0_off13_inb c 2) (k0_off13_packedbf16 c 2),
  .wacc 3 5 (k0_off14 c 0#32) (k0_off14_inb c 0) (k0_off14_packedbf16 c 0),
  .wacc 4 5 (k0_off15 c 0#32) (k0_off15_inb c 2) (k0_off15_packedbf16 c 2),
  .wacc 5 5 (k0_off16 c 0#32) (k0_off16_inb c 2) (k0_off16_packedbf16 c 2)]

/-- The result's rows, then the waits for the sends. -/
def ops2 (c : Dev nD) : List Op := [
  .fin 0 (k0_off17 c) (k0_off17_inb c),
  .fin 1 (k0_off18 c) (k0_off18_inb c),
  .fin 2 (k0_off19 c) (k0_off19_inb c),
  .fin 3 (k0_off20 c) (k0_off20_inb c),
  .fin 4 (k0_off21 c) (k0_off21_inb c),
  .fin 5 (k0_off22 c) (k0_off22_inb c),
  .wsend 0 0 (k0_off3 c 7#32) (k0_off3_inb c 6) (k0_off3_wordsbf16 c 6),
  .wsend 1 3 (k0_off4 c 7#32) (k0_off4_inb c 6) (k0_off4_wordsbf16 c 6),
  .wsend 3 0 (k0_off5 c 7#32) (k0_off5_inb c 6) (k0_off5_wordsbf16 c 6),
  .wsend 4 3 (k0_off6 c 7#32) (k0_off6_inb c 6) (k0_off6_wordsbf16 c 6),
  .wsend 1 0 (k0_off4 c 2#32) (k0_off4_inb c 1) (k0_off4_wordsbf16 c 1),
  .wsend 2 3 (k0_off7 c 2#32) (k0_off7_inb c 1) (k0_off7_wordsbf16 c 1),
  .wsend 4 0 (k0_off6 c 2#32) (k0_off6_inb c 1) (k0_off6_wordsbf16 c 1),
  .wsend 5 3 (k0_off8 c 2#32) (k0_off8_inb c 1) (k0_off8_wordsbf16 c 1),
  .wsend 0 3 (k0_off3 c 5#32) (k0_off3_inb c 4) (k0_off3_wordsbf16 c 4),
  .wsend 2 0 (k0_off7 c 5#32) (k0_off7_inb c 4) (k0_off7_wordsbf16 c 4),
  .wsend 3 3 (k0_off5 c 5#32) (k0_off5_inb c 4) (k0_off5_wordsbf16 c 4),
  .wsend 5 0 (k0_off8 c 5#32) (k0_off8_inb c 4) (k0_off8_wordsbf16 c 4),
  .wsend 0 1 (k0_off3 c 6#32) (k0_off3_inb c 5) (k0_off3_wordsbf16 c 5),
  .wsend 1 1 (k0_off4 c 6#32) (k0_off4_inb c 5) (k0_off4_wordsbf16 c 5),
  .wsend 2 1 (k0_off7 c 6#32) (k0_off7_inb c 5) (k0_off7_wordsbf16 c 5),
  .wsend 3 1 (k0_off5 c 6#32) (k0_off5_inb c 5) (k0_off5_wordsbf16 c 5),
  .wsend 4 1 (k0_off6 c 6#32) (k0_off6_inb c 5) (k0_off6_wordsbf16 c 5),
  .wsend 5 1 (k0_off8 c 6#32) (k0_off8_inb c 5) (k0_off8_wordsbf16 c 5),
  .wsend 0 2 (k0_off3 c 4#32) (k0_off3_inb c 3) (k0_off3_wordsbf16 c 3),
  .wsend 3 2 (k0_off5 c 4#32) (k0_off5_inb c 3) (k0_off5_wordsbf16 c 3),
  .wsend 1 2 (k0_off4 c 3#32) (k0_off4_inb c 2) (k0_off4_wordsbf16 c 2),
  .wsend 4 2 (k0_off6 c 3#32) (k0_off6_inb c 2) (k0_off6_wordsbf16 c 2),
  .wsend 2 2 (k0_off7 c 1#32) (k0_off7_inb c 0) (k0_off7_wordsbf16 c 0),
  .wsend 5 2 (k0_off8 c 1#32) (k0_off8_inb c 0) (k0_off8_wordsbf16 c 0),
  .wsend 0 4 (k0_off3 c 2#32) (k0_off3_inb c 1) (k0_off3_wordsbf16 c 1),
  .wsend 0 5 (k0_off3 c 3#32) (k0_off3_inb c 2) (k0_off3_wordsbf16 c 2),
  .wsend 1 4 (k0_off4 c 5#32) (k0_off4_inb c 4) (k0_off4_wordsbf16 c 4),
  .wsend 1 5 (k0_off4 c 1#32) (k0_off4_inb c 0) (k0_off4_wordsbf16 c 0),
  .wsend 2 4 (k0_off7 c 7#32) (k0_off7_inb c 6) (k0_off7_wordsbf16 c 6),
  .wsend 2 5 (k0_off7 c 4#32) (k0_off7_inb c 3) (k0_off7_wordsbf16 c 3),
  .wsend 3 4 (k0_off5 c 2#32) (k0_off5_inb c 1) (k0_off5_wordsbf16 c 1),
  .wsend 3 5 (k0_off5 c 3#32) (k0_off5_inb c 2) (k0_off5_wordsbf16 c 2),
  .wsend 4 4 (k0_off6 c 5#32) (k0_off6_inb c 4) (k0_off6_wordsbf16 c 4),
  .wsend 4 5 (k0_off6 c 1#32) (k0_off6_inb c 0) (k0_off6_wordsbf16 c 0),
  .wsend 5 4 (k0_off8 c 7#32) (k0_off8_inb c 6) (k0_off8_wordsbf16 c 6),
  .wsend 5 5 (k0_off8 c 4#32) (k0_off8_inb c 3) (k0_off8_wordsbf16 c 3),
  .wsend 0 6 (k0_off3 c 1#32) (k0_off3_inb c 0) (k0_off3_wordsbf16 c 0),
  .wsend 1 6 (k0_off4 c 4#32) (k0_off4_inb c 3) (k0_off4_wordsbf16 c 3),
  .wsend 2 6 (k0_off7 c 3#32) (k0_off7_inb c 2) (k0_off7_wordsbf16 c 2),
  .wsend 3 6 (k0_off5 c 1#32) (k0_off5_inb c 0) (k0_off5_wordsbf16 c 0),
  .wsend 4 6 (k0_off6 c 4#32) (k0_off6_inb c 3) (k0_off6_wordsbf16 c 3),
  .wsend 5 6 (k0_off8 c 3#32) (k0_off8_inb c 2) (k0_off8_wordsbf16 c 2)]

/-- The barrier's cell. -/
abbrev barSem : Sem sig := (SemArray.scalar (sig.barrier 0 rfl) : Sems sig S_).sem
/-- The closing handshake's cell. -/
abbrev ackSem : Sem sig := cc0_scratch10.sem

/-- The one word of a scale. -/
abbrev scR : Rect S1 := Rect.unit (s := S1) ![0] S1.size inb_S1_S1_0

/-- The body as a list's run between the two handshakes. -/
noncomputable def bodyL : Prog (TpuEff nD τ sig (Elt F) Λ₀ .tc) PUnit := do
  let c : Dev nD ← Prog.lift .deviceId
  semSignalWord (⟨k0_dev1 c, k0_dev1_lt c⟩ : Dev nD) barSem 1#32
  semSignalWord (⟨k0_dev2 c, k0_dev2_lt c⟩ : Dev nD) barSem 1#32
  semSignalWord (⟨k0_dev3 c, k0_dev3_lt c⟩ : Dev nD) barSem 1#32
  semWaitWord barSem 3#32
  let wv : Vec F S512x2048 .fp8e4m3 ← Prog.lift (.load wS wR.toLoadRect (View.loadsAt_vmem h_S512x2048))
  let _ : Vec F S512x2048 .fp8e4m3 ← Prog.lift (.load wM wR.toLoadRect (View.loadsAt_vmem h_S512x2048))
  Prog.lift (.store wM wR (k0_pay1 wv) Finset.univ (View.stores_vmem h_S512x2048 ((Memref.isWhole_whole cc0_scratch1).storeExact_slice rfl _ packedfp8e4m3_S512x2048_S512x2048_0_0) (fun _ => rfl)) (.inl rfl))
  runAll (Scalar.ofBits .f32 0x00000000#32) (ops1 c)
  let sx : Elt F .f32 ← smemLoad sxS scR numel1_S1 (by decide)
  let sw : Elt F .f32 ← smemLoad swS scR numel1_S1 (by decide)
  runAll (k0_pay61 sx sw) (ops2 c)
  semSignalWord (⟨k0_dev46 c, k0_dev46_lt c⟩ : Dev nD) ackSem 1#32
  semSignalWord (⟨k0_dev47 c, k0_dev47_lt c⟩ : Dev nD) ackSem 1#32
  semSignalWord (⟨k0_dev48 c, k0_dev48_lt c⟩ : Dev nD) ackSem 1#32
  semWaitWord ackSem 3#32

end Cert.KernelIdeal.Run

end
-- ==== Proof.Protocol.lean ====
/- The protocol between the eight devices.  A device has eighty-six cells: the barrier and the closing
   handshake, each raised once by every partner, and one send and one receive cell per transfer.  Every cell has
   one round.  The barrier hands over the partner's landing slots; a receive cell hands over the slot with the
   partner's piece in it; a send cell hands the sent piece back. -/
module

public import proofs.«01_k».proof.Proof.Ops
public import Idealize.ShloMosaic.Lib.Pipeline.Launch
public import Idealize.ShloMosaic.Lib.Pipeline.Kit
public import Idealize.ShloMosaic.Lib.Tactic
public import Idealize.ShloMosaic.Lib.Memref

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Ghost state -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The cube -/

set_option backward.proofsInPublic true in
/-- The device across the directions `e`. -/
def xr (c e : Dev nD) : Dev nD := ⟨(c.val ^^^ e.val) % 8, Nat.mod_lt _ (by decide)⟩

theorem xr_xr (c e : Dev nD) : xr (xr c e) e = c := by revert c e; decide
theorem xr_comm3 (c a b : Dev nD) : xr (xr c a) b = xr (xr c b) a := by revert c a b; decide +kernel

/-- Crossing in direction `e`, back and forth. -/
def across (e : Dev nD) : Dev nD ≃ Dev nD := ⟨fun c => xr c e, fun c => xr c e, fun c => xr_xr c e, fun c => xr_xr c e⟩

/-- The three partners' directions. -/
def dir : Fin 3 → Dev nD
  | 0 => 1 | 1 => 3 | 2 => 4

abbrev GS := Fin 6 × Fin 7

/-- The direction a group's stage sums along. -/
def maskOf (g : Fin 6) : ℕ → Dev nD
  | 0 => 0
  | 1 => (match g with | 0 => 4 | 1 => 3 | 2 => 1 | 3 => 4 | 4 => 3 | 5 => 1)
  | 2 => (match g with | 0 => 3 | 1 => 1 | 2 => 4 | 3 => 3 | 4 => 1 | 5 => 4)
  | _ => (match g with | 0 => 1 | 1 => 4 | 2 => 3 | 3 => 1 | 4 => 4 | 5 => 3)

/-- The stage a slot belongs to. -/
def lev : Fin 7 → Fin 5
  | 0 => 1 | 1 => 1 | 2 => 1 | 3 => 1 | 4 => 2 | 5 => 2 | 6 => 3

/-- The direction a slot is sent along. -/
def peer (gs : GS) : Dev nD := maskOf gs.1 (lev gs.2).val

/-- Which of the three partners that is. -/
def peerIx (gs : GS) : Fin 3 := if peer gs = 1 then 0 else if peer gs = 3 then 1 else 2

theorem dir_peerIx : ∀ gs : GS, dir (peerIx gs) = peer gs := by decide

/-- The receiver's chunk a slot is for, as a direction from the receiver. -/
def dm (gs : GS) : Dev nD :=
  match gs.2 with
  | 0 => maskOf gs.1 2
  | 1 => xr (maskOf gs.1 2) (maskOf gs.1 3)
  | 2 => 0
  | 3 => maskOf gs.1 3
  | 4 => maskOf gs.1 3
  | 5 => 0
  | 6 => 0

/-- The sender's chunk, as a direction from the sender. -/
def smk (gs : GS) : Dev nD := xr (dm gs) (peer gs)

theorem smk_eq : ∀ (c : Dev nD) (gs : GS), xr c (smk gs) = xr (xr c (peer gs)) (dm gs) := by decide +kernel

/-! ## Cells -/

/-- The cells of a device: barrier, closing handshake, sends, receives. -/
abbrev Cell := Bool ⊕ (Bool × GS)

abbrev barK : Cell := .inl false
abbrev ackK : Cell := .inl true
abbrev sndK (gs : GS) : Cell := .inr (false, gs)
abbrev rcvK (gs : GS) : Cell := .inr (true, gs)

/-- A cell's semaphore. -/
def csem : Cell → SemLoc sig
  | .inl false => .reg barSem
  | .inl true => .reg ackSem
  | .inr (false, gs) => .dma (sndSem gs.1 gs.2)
  | .inr (true, gs) => .dma (rcvSem gs.1 gs.2)

/-- Which cell a semaphore is. -/
def dec : SemLoc sig → Option Cell
  | .reg k => if k.val = 0 then some ackK else some barK
  | .dma k =>
    if k.val < 5 then none
    else if k.val < 47 then some (sndK (⟨(k.val - 5) / 7 % 6, Nat.mod_lt _ (by decide)⟩, ⟨(k.val - 5) % 7, Nat.mod_lt _ (by decide)⟩))
    else some (rcvK (⟨(k.val - 47) / 7 % 6, Nat.mod_lt _ (by decide)⟩, ⟨(k.val - 47) % 7, Nat.mod_lt _ (by decide)⟩))

theorem sndSem_val : ∀ (g : Fin 6) (s : Fin 7), (sndSem g s).val = 5 + 7 * g.val + s.val := by decide +kernel
theorem rcvSem_val : ∀ (g : Fin 6) (s : Fin 7), (rcvSem g s).val = 47 + 7 * g.val + s.val := by decide +kernel

theorem dec_csem (k : Cell) : dec (csem k) = some k := by revert k; decide +kernel

/-- A cell of a device. -/
abbrev kcell (ck : Dev nD × Cell) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : csem k = csem k' := congrArg Prod.snd h
  have h3 : some k = some k' := by rw [← dec_csem, ← dec_csem, h2]
  rw [h1, Option.some.inj h3]

/-! ## What is staged, and what is summed -/

/-- The device's columns of the left operand. -/
def xstg (c : Dev nD) : (cc0_stg0_0 : Ref sig .tc).ty.Contents (Elt F) :=
  (win0_0.blk (0 : Fin 1)).view.read (Elt F) ((s₀ m ρ).mem ((c : Thread nD τ).loc main_arg0))
/-- The device's rows of the right operand. -/
def wstg (c : Dev nD) : (cc0_stg1_0 : Ref sig .tc).ty.Contents (Elt F) :=
  (win0_1.blk (0 : Fin 1)).view.read (Elt F) ((s₀ m ρ).mem ((c : Thread nD τ).loc main_arg1))
/-- The two scales. -/
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

theorem xr_inb (j : Dev nD) : ∀ a, (![512 * j.val, 0] : Fin 2 → ℕ) a + S512x512.size a ≤ S4096x512.size a := by
  revert j; decide
/-- The rows of the left operand that make chunk `j`. -/
abbrev xR (j : Dev nD) : Rect S4096x512 := Rect.unit (s := S4096x512) ![512 * j.val, 0] S512x512.size (xr_inb j)

theorem chunk_inb (j : Dev nD) : ∀ a, (![j.val, 0, 0] : Fin 3 → ℕ) a + S1x512x2048.size a ≤ S8x512x2048.size a := by
  revert j; decide
/-- A chunk of the accumulator. -/
abbrev chunkR (j : Dev nD) : Rect S8x512x2048 := Rect.unit (s := S8x512x2048) ![j.val, 0, 0] S1x512x2048.size (chunk_inb j)

theorem piece_inb (j : Dev nD) (g : Fin 6) : InAcc g ![j.val, roff g, 0] := by revert j g; decide
/-- A group's piece of a chunk. -/
abbrev pieceR (j : Dev nD) (g : Fin 6) : Rect S8x512x2048 := accR g ![j.val, roff g, 0] (piece_inb j g)

theorem sub_inb (g : Fin 6) : ∀ a, (![0, roff g, 0] : Fin 3 → ℕ) a + (P3 g).size a ≤ S1x512x2048.size a := by
  revert g; decide
/-- A group's rows of one chunk. -/
abbrev subR (g : Fin 6) : Rect S1x512x2048 := Rect.unit (s := S1x512x2048) ![0, roff g, 0] (P3 g).size (sub_inb g)

/-- Device `c`'s product for chunk `j`. -/
def chunkV (c j : Dev nD) : FVec F S1x512x2048 .bf16 :=
  gemmV (xS.view.readAt (Elt F) (xR j).toLoadRect (xstg m ρ c)) (k0_pay1 (wstg m ρ c))

/-- A group's rows of it. -/
def baseV (g : Fin 6) (c j : Dev nD) : Vec F (P3 g) .bf16 := fun i => chunkV m ρ c j ((subR g).emb i)

/-- A piece after each stage: the product, then the sums along the first one and two directions. -/
def val (g : Fin 6) : ℕ → Dev nD → Dev nD → Vec F (P3 g) .bf16
  | 0 => baseV m ρ g
  | 1 => baseV m ρ g
  | ℓ + 2 => fun c j => comb g (val g (ℓ + 1) c j) (val g (ℓ + 1) (xr c (maskOf g (ℓ + 1))) j)

/-- What lands in a slot of device `p`. -/
def slotV (gs : GS) (p : Dev nD) : Vec F (P3 gs.1) .bf16 :=
  val m ρ gs.1 (lev gs.2).val (xr p (peer gs)) (xr p (dm gs))

/-! ## Ownership -/

/-- A slot of device `p`, holding `X`. -/
def slotPts (p : Dev nD) (gs : GS) (X : (P3 gs.1).Idx → Elt F .bf16) : sProp 𝕄 :=
  owns (p : Thread nD τ) ((rcvM gs.1).slice (slotR gs.1 gs.2) (fun _ => rfl)) fullShare X

/-- A piece of device `c`'s accumulator, holding `X`. -/
def piecePts (c : Dev nD) (j : Dev nD) (g : Fin 6) (X : (P3 g).Idx → Elt F .bf16) : sProp 𝕄 :=
  owns (c : Thread nD τ) (accM.slice (pieceR j g) (fun _ => rfl)) fullShare X

/-- Rows of device `c`'s result, holding `X`. -/
def outPts (c : Dev nD) (g : Fin 6) (X : (P2 g).Idx → Elt F .f32) : sProp 𝕄 :=
  owns (c : Thread nD τ) (outS.slice (outR g) (fun _ => rfl)) fullShare X

instance slotPts_storable (p : Dev nD) (gs : GS) (X) : BI.Storable (upEmb : UEmb _ 𝕄) (slotPts (F := F) p gs X) := by
  unfold slotPts; infer_instance
instance piecePts_storable (c j : Dev nD) (g : Fin 6) (X) : BI.Storable (upEmb : UEmb _ 𝕄) (piecePts (F := F) c j g X) := by
  unfold piecePts; infer_instance

/-! ## The schedule -/

/-- The units a transfer of a group's piece raises. -/
def crd (g : Fin 6) : ℕ := (slotP g 0).view.dmaCredit

theorem crd_pos (g : Fin 6) : 0 < crd g := View.dmaCredit_pos _ (P2_pos g)

/-- What a partner's entry signal hands over: its slots that are written from here. -/
def barPay (c : Dev nD) (d : Fin 3) : sProp 𝕄 :=
  bigSep (Finset.univ.filter fun gs : GS => peerIx gs = d) fun gs => iprop(∃ X, slotPts (F := F) (xr c (dir d)) gs X)

def pay (c : Dev nD) (d : Fin 3) : Cell → sProp 𝕄
  | .inl false => barPay (F := F) c d
  | .inl true => iprop(emp)
  | .inr (false, gs) => iprop(∃ X, piecePts c (xr c (smk gs)) gs.1 X)
  | .inr (true, gs) => slotPts c gs (slotV m ρ gs c)

instance pay_storable (c : Dev nD) (d : Fin 3) (k : Cell) : BI.Storable (upEmb : UEmb _ 𝕄) (pay (F := F) m ρ c d k) := by
  rcases k with (_ | _) | ⟨_ | _, gs⟩ <;> (unfold pay; try unfold barPay) <;> infer_instance

/-- Who pays a cell: both handshakes the three partners, a transfer's cells the one transfer. -/
def dutiesOf : Cell → Finset (Fin 3)
  | .inl _ => Finset.univ
  | .inr _ => {0}

def amountOf : Cell → ℕ
  | .inl _ => 1
  | .inr (_, gs) => crd gs.1

theorem amountOf_pos (k : Cell) : 0 < amountOf k := by
  rcases k with _ | ⟨_, gs⟩
  · exact Nat.one_pos
  · exact crd_pos _

/-- One round per cell. -/
def rd : Rounds.Schedule (GSem nD τ sig) (Fin 3) 𝕄 where
  duties g r := if r = 0 ∧ g.1.2 = .tc then (match dec g.2 with | some k => dutiesOf k | none => ∅) else ∅
  unitless _ := False
  amount g _ _ := match dec g.2 with | some k => amountOf k | none => 1
  payload g _ d := match dec g.2 with | some k => pay m ρ g.1.1 d k | none => iprop(emp)
  amount_pos g _ _ _ := by
    cases dec g.2 with
    | none => exact Nat.one_pos
    | some k => exact amountOf_pos k

instance rd_payload_storable (g : GSem nD τ sig) (r : ℕ) (d : Fin 3) :
    BI.Storable (upEmb : UEmb _ 𝕄) ((rd (F := F) m ρ).payload g r d) := by
  show BI.Storable upEmb (match dec g.2 with | some k => pay m ρ g.1.1 d k | none => iprop(emp))
  cases dec g.2 <;> infer_instance

theorem duties_at (c : Dev nD) (k : Cell) : (rd (F := F) m ρ).duties (kcell (c, k)) 0 = dutiesOf k := by
  dsimp only [rd]; rw [if_pos ⟨rfl, rfl⟩, dec_csem]
theorem duties_later (g : GSem nD τ sig) : ∀ r, 1 ≤ r → (rd (F := F) m ρ).duties g r = ∅ :=
  fun r hr => by dsimp only [rd]; rw [if_neg fun h => by omega]
theorem amount_at (c : Dev nD) (k : Cell) (d : Fin 3) : (rd (F := F) m ρ).amount (kcell (c, k)) 0 d = amountOf k := by
  dsimp only [rd]; rw [dec_csem]
theorem payload_at (c : Dev nD) (k : Cell) (d : Fin 3) : (rd (F := F) m ρ).payload (kcell (c, k)) 0 d = pay m ρ c d k := by
  dsimp only [rd]; rw [dec_csem]

theorem expect_hand (c : Dev nD) (b : Bool) : (rd (F := F) m ρ).expect (kcell (c, .inl b)) 0 = 3 := by
  unfold Schedule.expect Schedule.amountOf
  rw [duties_at, Finset.sum_congr rfl fun d _ => amount_at m ρ c (.inl b) d]; rfl
theorem expect_xfer (c : Dev nD) (b : Bool) (gs : GS) : (rd (F := F) m ρ).expect (kcell (c, .inr (b, gs))) 0 = crd gs.1 := by
  unfold Schedule.expect Schedule.amountOf
  rw [duties_at]; show (∑ d ∈ {0}, _) = _
  rw [Finset.sum_singleton, amount_at]; rfl

theorem rest_xfer (c : Dev nD) (b : Bool) (gs : GS) :
    bigSep ((rd (F := F) m ρ).duties (kcell (c, .inr (b, gs))) 0 \ ∅) (fun d => (rd (F := F) m ρ).payload (kcell (c, .inr (b, gs))) 0 d)
      = pay m ρ c 0 (.inr (b, gs)) := by
  rw [Finset.sdiff_empty, duties_at]; show bigSep {0} _ = _
  rw [bigSep_singleton, payload_at]
theorem rest_hand (c : Dev nD) (b : Bool) :
    bigSep ((rd (F := F) m ρ).duties (kcell (c, .inl b)) 0 \ ∅) (fun d => (rd (F := F) m ρ).payload (kcell (c, .inl b)) 0 d)
      = bigSep Finset.univ fun d : Fin 3 => pay m ρ c d (.inl b) := by
  rw [Finset.sdiff_empty, duties_at]; exact bigSep_congr fun d _ => payload_at m ρ c (.inl b) d

/-! ## What is owed, and the levels -/

/-- The landings a device owes for a set of transfers. -/
def Osend (c : Dev nD) (S : Finset GS) : CellTallies nD τ sig Unit :=
  ∑ gs ∈ S, tallyAt (kcell (xr c (peer gs), rcvK gs)) () (crd gs.1)
/-- The handshake units owed to some of the partners. -/
def Ohand (b : Bool) (c : Dev nD) (S : Finset (Fin 3)) : CellTallies nD τ sig Unit :=
  ∑ d ∈ S, tallyAt (kcell (xr c (dir d), .inl b)) () 1
/-- What a device owes at launch. -/
def O₀ (c : Dev nD) : CellTallies nD τ sig Unit :=
  Osend c Finset.univ + Ohand true c Finset.univ + Ohand false c Finset.univ

def L (g : GSem nD τ sig) : Finset Unit := if g.1.2 = .tc then {()} else ∅

def levOf : Cell → ℕ
  | .inl false => 1
  | .inl true => 6
  | .inr (false, _) => 5
  | .inr (true, gs) => (lev gs.2).val + 1

/-- The order of waiting: staging, barrier, the three stages, the sends, the closing handshake. -/
def lv (g : GSem nD τ sig) (_ : Unit) : ℕ := match dec g.2 with | some k => levOf k | none => 0

theorem lv_at (c : Dev nD) (k : Cell) : lv (kcell (c, k)) () = levOf k := by dsimp only [lv]; rw [dec_csem]

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem sum_pos {ι : Type} {S : Finset ι} {f : ι → CellTallies nD τ sig Unit} {g : GSem nD τ sig} {u : Unit}
    (h : 0 < (∑ i ∈ S, f i) g u) : ∃ i ∈ S, 0 < f i g u := by
  rw [Finset.sum_apply, Finsupp.finset_sum_apply] at h
  by_contra hn
  push Not at hn
  rw [Finset.sum_eq_zero fun i hi => Nat.le_zero.mp (hn i hi)] at h
  exact Nat.lt_irrefl 0 h

theorem add_pos' {a b : CellTallies nD τ sig Unit} {g : GSem nD τ sig} {u : Unit} (h : 0 < (a + b) g u) :
    0 < a g u ∨ 0 < b g u := by
  rw [Pi.add_apply, Finsupp.add_apply] at h; omega

theorem Osend_pos {c : Dev nD} {S : Finset GS} {g : GSem nD τ sig} {u : Unit} (h : 0 < Osend c S g u) :
    ∃ gs ∈ S, g = kcell (xr c (peer gs), rcvK gs) := by
  obtain ⟨gs, hgs, h⟩ := sum_pos h
  exact ⟨gs, hgs, tally_pos h⟩
theorem Ohand_pos {b : Bool} {c : Dev nD} {S : Finset (Fin 3)} {g : GSem nD τ sig} {u : Unit} (h : 0 < Ohand b c S g u) :
    ∃ d ∈ S, g = kcell (xr c (dir d), .inl b) := by
  obtain ⟨d, hd, h⟩ := sum_pos h
  exact ⟨d, hd, tally_pos h⟩

/-- A wait is allowed below everything owed. -/
theorem mayWait_of (c : Dev nD) (sm : SemLoc sig) (O : CellTallies nD τ sig Unit)
    (h : ∀ g u, 0 < O g u → ∃ (c' : Dev nD) (k : Cell), g = kcell (c', k) ∧ lv ((c : Thread nD τ), sm) () < levOf k) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨c', k, rfl, -⟩ := h g u hg; exact Finset.mem_singleton_self _)
    (fun p hp => by rw [Finset.mem_singleton.mp hp])
    (fun g u hg => by obtain ⟨c', k, rfl, hk⟩ := h g u hg; exact lt_of_lt_of_eq hk (lv_at c' k).symm)

end Cert.KernelIdeal.Run

end

end
-- ==== Proof.Sched.lean ====
/- The list of operations with its offsets and devices replaced by directions from the running device, and the
   bookkeeping of a run: which pieces are held and at which stage, which transfers have been sent, which have
   landed, which rows of the result are written. -/
module

public import proofs.«01_k».proof.Proof.Protocol

@[expose] public section

namespace Cert.KernelIdeal.Run

open Idealize.ShloMosaic Idealize.SL.Sem
open Cert.KernelIdeal Cert.KernelIdeal.Gen

/-! ## Operations by direction -/

/-- An operation, its chunk and its partner given as directions. -/
inductive AOp where
  | gemm (e : Dev nD)
  | send (g : Fin 6) (s : Fin 7)
  | wacc (g : Fin 6) (s : Fin 7)
  | fin (g : Fin 6)
  | wsend (g : Fin 6) (s : Fin 7)

/-- Whether an operation of device `c` is the given one. -/
def Op.is (c : Dev nD) : Op → AOp → Bool
  | .gemm ox _ oa _ _, .gemm e => ox = ![512 * (xr c e).val, 0] ∧ oa = ![(xr c e).val, 0, 0]
  | .send g s o _ _ n, .send g' s' => g = g' ∧ s = s' ∧ n = xr c (peer (g', s')) ∧ o = ![(xr c (smk (g', s'))).val, roff g', 0]
  | .wacc g s o _ _, .wacc g' s' => g = g' ∧ s = s' ∧ o = ![(xr c (dm (g', s'))).val, roff g', 0]
  | .fin g o _, .fin g' => g = g' ∧ o = ![c.val, roff g', 0]
  | .wsend g s o _ _, .wsend g' s' => g = g' ∧ s = s' ∧ o = ![(xr c (smk (g', s'))).val, roff g', 0]
  | _, _ => false

/-- Whether a list of operations is the given one. -/
def allIs (c : Dev nD) : List Op → List AOp → Bool
  | [], [] => true
  | o :: os, a :: l => o.is c a && allIs c os l
  | _, _ => false

def aops1 : List AOp := [
  .gemm 7, .send 0 0, .send 1 3, .send 3 0, .send 4 3, .gemm 2, .send 1 0, .send 2 3,
  .send 4 0, .send 5 3, .gemm 5, .send 0 3, .send 2 0, .send 3 3, .send 5 0, .gemm 6,
  .send 0 1, .send 1 1, .send 2 1, .send 3 1, .send 4 1, .send 5 1, .gemm 4, .send 0 2,
  .send 3 2, .gemm 3, .send 1 2, .send 4 2, .gemm 1, .send 2 2, .send 5 2, .gemm 0,
  .wacc 0 0, .wacc 1 0, .wacc 2 0, .wacc 3 0, .wacc 4 0, .wacc 5 0, .wacc 0 1, .wacc 1 1,
  .wacc 2 1, .wacc 3 1, .wacc 4 1, .wacc 5 1, .send 0 4, .send 0 5, .send 1 4, .send 1 5,
  .send 2 4, .send 2 5, .send 3 4, .send 3 5, .send 4 4, .send 4 5, .send 5 4, .send 5 5,
  .wacc 0 2, .wacc 1 2, .wacc 2 2, .wacc 3 2, .wacc 4 2, .wacc 5 2, .wacc 0 3, .wacc 1 3,
  .wacc 2 3, .wacc 3 3, .wacc 4 3, .wacc 5 3, .wacc 0 4, .send 0 6, .wacc 1 4, .send 1 6,
  .wacc 2 4, .send 2 6, .wacc 3 4, .send 3 6, .wacc 4 4, .send 4 6, .wacc 5 4, .send 5 6,
  .wacc 0 5, .wacc 1 5, .wacc 2 5, .wacc 3 5, .wacc 4 5, .wacc 5 5]

def aops2 : List AOp := [
  .fin 0, .fin 1, .fin 2, .fin 3, .fin 4, .fin 5, .wsend 0 0, .wsend 1 3,
  .wsend 3 0, .wsend 4 3, .wsend 1 0, .wsend 2 3, .wsend 4 0, .wsend 5 3, .wsend 0 3, .wsend 2 0,
  .wsend 3 3, .wsend 5 0, .wsend 0 1, .wsend 1 1, .wsend 2 1, .wsend 3 1, .wsend 4 1, .wsend 5 1,
  .wsend 0 2, .wsend 3 2, .wsend 1 2, .wsend 4 2, .wsend 2 2, .wsend 5 2, .wsend 0 4, .wsend 0 5,
  .wsend 1 4, .wsend 1 5, .wsend 2 4, .wsend 2 5, .wsend 3 4, .wsend 3 5, .wsend 4 4, .wsend 4 5,
  .wsend 5 4, .wsend 5 5, .wsend 0 6, .wsend 1 6, .wsend 2 6, .wsend 3 6, .wsend 4 6, .wsend 5 6]

theorem ops1_is : ∀ c : Dev nD, allIs c (ops1 c) aops1 = true := by decide +kernel
theorem ops2_is : ∀ c : Dev nD, allIs c (ops2 c) aops2 = true := by decide +kernel

/-! ## The bookkeeping -/

/-- Where a run stands.  `acc e g`: the piece of group `g` in the chunk in direction `e`: not yet filled (0), after
    its product or a stage (1, 2, 3), lent to a send (4).  `snd`: not sent, in flight, returned. -/
structure St where
  acc : Dev nD → Fin 6 → Fin 5
  snd : GS → Fin 3
  rcv : GS → Bool
  out : Fin 6 → Bool

def st₀ : St := ⟨fun _ _ => 0, fun _ => 0, fun _ => false, fun _ => false⟩

/-- The transfers not yet sent. -/
def St.unsent (st : St) : Finset GS := Finset.univ.filter fun gs => st.snd gs = 0

/-- The pieces with one of them changed. -/
def setAcc (acc : Dev nD → Fin 6 → Fin 5) (e : Dev nD) (g : Fin 6) (v : Fin 5) : Dev nD → Fin 6 → Fin 5 :=
  Function.update acc e (Function.update (acc e) g v)

/-- What an operation needs. -/
def AOp.pre (st : St) : AOp → Prop
  | .gemm e => ∀ g, st.acc e g = 0
  | .send g s => st.acc (smk (g, s)) g = lev s ∧ st.snd (g, s) = 0
  | .wacc g s => st.acc (dm (g, s)) g = lev s ∧ st.rcv (g, s) = false ∧ (lev s).val < 3 ∧ ∀ gs, st.snd gs = 0 → lev s < lev gs.2
  | .fin g => st.acc 0 g = 3 ∧ st.rcv (g, 6) = false ∧ st.out g = false ∧ ∀ gs, st.snd gs ≠ 0
  | .wsend g s => st.acc (smk (g, s)) g = 4 ∧ st.snd (g, s) = 1 ∧ ∀ gs, st.snd gs ≠ 0

instance (st : St) (a : AOp) : Decidable (a.pre st) := by
  cases a <;> unfold AOp.pre <;> infer_instance

/-- What an operation changes. -/
def AOp.post (st : St) : AOp → St
  | .gemm e => { st with acc := Function.update st.acc e fun _ => 1 }
  | .send g s => { st with acc := setAcc st.acc (smk (g, s)) g 4, snd := Function.update st.snd (g, s) 1 }
  | .wacc g s => { st with acc := setAcc st.acc (dm (g, s)) g (lev s + 1), rcv := Function.update st.rcv (g, s) true }
  | .fin g => { st with rcv := Function.update st.rcv (g, 6) true, out := Function.update st.out g true }
  | .wsend g s => { st with acc := setAcc st.acc (smk (g, s)) g 0, snd := Function.update st.snd (g, s) 2 }

/-- A run of a list. -/
def runSt : List AOp → St → Option St
  | [], st => some st
  | a :: l, st => if a.pre st then runSt l (a.post st) else none

/-- Nothing is left to do. -/
def St.done (st : St) : Prop :=
  (∀ e g, st.acc e g ≠ 4) ∧ (∀ gs, st.snd gs = 2) ∧ (∀ gs, st.rcv gs = true) ∧ ∀ g, st.out g = true

instance (st : St) : Decidable st.done := by unfold St.done; infer_instance

theorem run_done : ((runSt aops1 st₀).bind fun st => runSt aops2 st).any (fun st => st.done) = true := by decide +kernel

end Cert.KernelIdeal.Run

end
-- ==== Proof.Mem.lean ====
/- What the run needs of the memory: loads and stores of an owned rectangle, joining rectangles held at unknown
   contents, and the pieces, slots and rows as partitions of their buffers. -/
module

public import proofs.«01_k».proof.Proof.Sched

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

instance elt_nonempty (e : EltTy) : Nonempty (Elt F e) := by
  cases e <;> first | infer_instance | exact ⟨Scalar.ofBits _ 0⟩

/-- A device's program at weakest precondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

theorem load_owned (c : Dev nD) {sp : CoreSpace} {s : Shape} {e : EltTy} (m : Memref sig .tc sp s e) (r : Rect s) (hr : ∀ a, r.stride a = 1)
    {hl : m.view.LoadsAt r.toLoadRect} {α : Type} {k : (r.shape.Idx → Elt F e) → Prog (TpuEff nD τ sig (Elt F) Λ₀ .tc) α} {Q : α → sProp 𝕄}
    (q : PosShare TreeShare) (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  rw [show (m.access r).read (Elt F) f = X from hf]
  iapply Hk
  iexists f; isplitr
  · ipureintro; exact hf
  · iexact H

theorem store_owned (c : Dev nD) {sp : CoreSpace} {s : Shape} {e : EltTy} (m : Memref sig .tc sp s e) (r : Rect s) (hr : ∀ a, r.stride a = 1)
    {w : r.shape.Idx → Elt F e} {hx} {hm} {α : Type} {k : PUnit → Prog (TpuEff nD τ sig (Elt F) Λ₀ .tc) α} {Q : α → sProp 𝕄}
    (X : r.shape.Idx → Elt F e) :
    (owns (c : Thread nD τ) (m.slice r hr) fullShare X : sProp 𝕄)
      ⊢ iprop((owns (c : Thread nD τ) (m.slice r hr) fullShare w -∗ WP c (k ⟨⟩) Q)
          -∗ WP c (.op (.store m r w Finset.univ hx hm) k) Q) := by
  unfold owns
  iintro ⟨%f, %hf, H⟩ Hk
  iapply (wp_store 𝒱₀ (c : Thread nD τ) none Set.univ (m := m) (r := r) (w := w) (Mk := Finset.univ) (f := f) (hx := hx) (hm := hm) (k := k) (Q := Q)
    (S := (m.slice r hr).view.set) (Finset.Subset.refl _)) $$ H
  iintro H
  iapply Hk
  iexists (m.access r).write (Elt F) f w Finset.univ
  isplitr
  · ipureintro; exact View.read_write_univ f w
  · iexact H

/-! ## Joining -/

/-- Rectangles that cut up a memref, each held at some contents, are the memref at some contents. -/
theorem owns_join (c : Dev nD) {sp : Space} {s : Shape} {e : EltTy} (m : Memref sig .tc sp s e) (q : PosShare TreeShare)
    {T : Type} [Fintype T] [DecidableEq T] (r : T → Rect s) (hr : ∀ t a, (r t).stride a = 1)
    (hd : ∀ t t', t ≠ t' → Disjoint (r t).set (r t').set) (hcov : Finset.univ.biUnion (fun t => (r t).set) = Finset.univ) :
    bigSep Finset.univ (fun t => iprop(∃ X, owns (c : Thread nD τ) (m.slice (r t) (hr t)) q X))
      ⊢ (iprop(∃ X, owns (c : Thread nD τ) m q X) : sProp 𝕄) := by
  classical
  refine (bigSep_exists_pi Finset.univ fun t X => (owns (c : Thread nD τ) (m.slice (r t) (hr t)) q X : sProp 𝕄)).trans ?_
  iintro ⟨%Y, H⟩
  iexists Rect.glue r hcov Y
  iapply (owns_of_rects (c : Thread nD τ) m q r hr hd hcov (Rect.glue r hcov Y))
  rw [bigSep_congr fun b _ => congrArg (owns (c : Thread nD τ) (m.slice (r b) (hr b)) q)
    (funext fun j => Rect.glue_emb r hcov hd Y b j)]
  iexact H

/-! ## The partitions -/

/-- The row group a row of a chunk lies in. -/
def grpOf (i : ℕ) : Fin 6 :=
  if i < 96 then 0 else if i < 192 then 1 else if i < 272 then 2 else if i < 352 then 3 else if i < 432 then 4 else 5

theorem grpOf_iff {i : ℕ} (hi : i < 512) (g : Fin 6) : (roff g ≤ i ∧ i < roff g + rlen g) ↔ g = grpOf i := by
  unfold grpOf
  fin_cases g <;> simp only [roff, rlen] <;> split_ifs <;> simp <;> omega

theorem mem_piece {j : Dev nD} {g : Fin 6} {i : S8x512x2048.Idx} :
    i ∈ (pieceR j g).set ↔ j.val = (i 0).val ∧ g = grpOf (i 1).val := by
  have h1 : (i 1).val < 512 := (i 1).isLt
  have h2 : (i 2).val < 2048 := (i 2).isLt
  rw [Rect.mem_set_unit, ← grpOf_iff h1, Fin.forall_fin_succ, Fin.forall_fin_succ, Fin.forall_fin_one]
  simp; omega

theorem mem_sub {g : Fin 6} {i : S1x512x2048.Idx} : i ∈ (subR g).set ↔ g = grpOf (i 1).val := by
  have h1 : (i 1).val < 512 := (i 1).isLt
  have h0 : (i 0).val < 1 := (i 0).isLt
  have h2 : (i 2).val < 2048 := (i 2).isLt
  rw [Rect.mem_set_unit, ← grpOf_iff h1, Fin.forall_fin_succ, Fin.forall_fin_succ, Fin.forall_fin_one]
  simp; omega

theorem mem_slot {g : Fin 6} {s : Fin 7} {i : (R3 g).Idx} : i ∈ (slotR g s).set ↔ s.val = (i 0).val := by
  have h1 : (i 1).val < rlen g := (i 1).isLt
  have h2 : (i 2).val < 2048 := (i 2).isLt
  rw [Rect.mem_set_unit, Fin.forall_fin_succ, Fin.forall_fin_succ, Fin.forall_fin_one]
  simp; omega

theorem mem_out {g : Fin 6} {i : S512x2048.Idx} : i ∈ (outR g).set ↔ g = grpOf (i 0).val := by
  have h1 : (i 0).val < 512 := (i 0).isLt
  have h2 : (i 1).val < 2048 := (i 1).isLt
  rw [Rect.mem_set_unit, ← grpOf_iff h1, Fin.forall_fin_two]
  simp; omega

theorem piece_disj : ∀ t t' : Dev nD × Fin 6, t ≠ t' → Disjoint (pieceR t.1 t.2).set (pieceR t'.1 t'.2).set :=
  fun t t' hne => Finset.disjoint_left.mpr fun i h h' => by
    rw [mem_piece] at h h'
    exact hne (Prod.ext (Fin.ext (h.1.trans h'.1.symm)) (h.2.trans h'.2.symm))
theorem piece_cov : (Finset.univ : Finset (Dev nD × Fin 6)).biUnion (fun t => (pieceR t.1 t.2).set) = Finset.univ :=
  Finset.eq_univ_of_forall fun i => Finset.mem_biUnion.mpr ⟨(⟨(i 0).val, (i 0).isLt⟩, grpOf (i 1).val), Finset.mem_univ _, mem_piece.mpr ⟨rfl, rfl⟩⟩

theorem sub_disj : ∀ g g' : Fin 6, g ≠ g' → Disjoint (subR g).set (subR g').set :=
  fun g g' hne => Finset.disjoint_left.mpr fun i h h' => hne ((mem_sub.mp h).trans (mem_sub.mp h').symm)
theorem sub_cov : (Finset.univ : Finset (Fin 6)).biUnion (fun t => (subR t).set) = Finset.univ :=
  Finset.eq_univ_of_forall fun i => Finset.mem_biUnion.mpr ⟨_, Finset.mem_univ _, mem_sub.mpr rfl⟩

theorem slot_disj (g : Fin 6) : ∀ s s' : Fin 7, s ≠ s' → Disjoint (slotR g s).set (slotR g s').set :=
  fun s s' hne => Finset.disjoint_left.mpr fun i h h' => hne (Fin.ext ((mem_slot.mp h).trans (mem_slot.mp h').symm))
theorem slot_cov (g : Fin 6) : (Finset.univ : Finset (Fin 7)).biUnion (fun t => (slotR g t).set) = Finset.univ :=
  Finset.eq_univ_of_forall fun i => Finset.mem_biUnion.mpr ⟨⟨(i 0).val, (i 0).isLt⟩, Finset.mem_univ _, mem_slot.mpr rfl⟩

theorem out_disj : ∀ g g' : Fin 6, g ≠ g' → Disjoint (outR g).set (outR g').set :=
  fun g g' hne => Finset.disjoint_left.mpr fun i h h' => hne ((mem_out.mp h).trans (mem_out.mp h').symm)
theorem out_cov : (Finset.univ : Finset (Fin 6)).biUnion (fun t => (outR t).set) = Finset.univ :=
  Finset.eq_univ_of_forall fun i => Finset.mem_biUnion.mpr ⟨_, Finset.mem_univ _, mem_out.mpr rfl⟩

/-! ## Pieces inside a chunk -/

/-- Part of the accumulator by where its words lie. -/
def accOwn (c : Dev nD) {s : Shape} (em : s.Idx ↪ S8x512x2048.Idx) (X : s.Idx → Elt F .bf16) : sProp 𝕄 :=
  iprop(∃ f : Buf (Elt F) ((c : Thread nD τ).loc cc0_scratch0), ⌜(fun x => f (em x)) = X⌝
    ∗ ((c : Thread nD τ).loc cc0_scratch0 ↦[Finset.univ.map em]{fullShare} f))

theorem chunk_sub_emb (j : Dev nD) (g : Fin 6) (i : (P3 g).Idx) : (pieceR j g).emb i = (chunkR j).emb ((subR g).emb i) := by
  funext a
  apply Fin.ext
  fin_cases a
  · show j.val + 1 * (i 0).val = j.val + 1 * (0 + 1 * (i 0).val); omega
  · show roff g + 1 * (i 1).val = 0 + 1 * (roff g + 1 * (i 1).val); omega
  · show 0 + 1 * (i 2).val = 0 + 1 * (0 + 1 * (i 2).val); omega

/-- A group's rows of a chunk are the group's piece. -/
theorem sub_piece (c j : Dev nD) (g : Fin 6) (X : (P3 g).Idx → Elt F .bf16) :
    (owns (c : Thread nD τ) ((accM.slice (chunkR j) (fun _ => rfl)).slice (subR g) (fun _ => rfl)) fullShare X : sProp 𝕄)
      = piecePts c j g X := by
  have h : (subR g).emb.trans (chunkR j).emb = (pieceR j g).emb :=
    Function.Embedding.ext fun i => (chunk_sub_emb j g i).symm
  show accOwn c ((subR g).emb.trans (chunkR j).emb) X = accOwn c (pieceR j g).emb X
  rw [h]

/-- A chunk is its pieces. -/
theorem chunk_split (c j : Dev nD) (X : S1x512x2048.Idx → Elt F .bf16) :
    (owns (c : Thread nD τ) (accM.slice (chunkR j) (fun _ => rfl)) fullShare X : sProp 𝕄)
      ⊢ bigSep Finset.univ fun g => piecePts c j g fun i => X ((subR g).emb i) := by
  rw [bigSep_congr fun g _ => (sub_piece c j g fun i => X ((subR g).emb i)).symm]
  exact owns_rects (c : Thread nD τ) _ fullShare subR (fun _ _ => rfl) sub_disj sub_cov X

theorem chunk_join (c j : Dev nD) :
    bigSep Finset.univ (fun g => iprop(∃ X, piecePts (F := F) c j g X))
      ⊢ (iprop(∃ X, owns (c : Thread nD τ) (accM.slice (chunkR j) (fun _ => rfl)) fullShare X) : sProp 𝕄) := by
  rw [bigSep_congr fun g _ => congrArg BIBase.exists (funext fun X => (sub_piece c j g X).symm)]
  exact owns_join c _ fullShare subR (fun _ _ => rfl) sub_disj sub_cov

/-! ## Families of resources by state -/

/-- One member of a family, and the family with another in its place. -/
theorem bigSep_at {I A : Type} [Fintype I] [DecidableEq I] (Φ : I → A → sProp 𝕄) (st : I → A) (i : I) :
    bigSep Finset.univ (fun x => Φ x (st x))
      ⊢ iprop(Φ i (st i) ∗ ∀ a, Φ i a -∗ bigSep Finset.univ fun x => Φ x (Function.update st i a x)) := by
  rw [bigSep_univ_at _ i]
  iintro ⟨Hi, Hr⟩
  isplitl [Hi]; · iexact Hi
  iintro %a Ha
  rw [bigSep_univ_at _ i, Function.update_self]
  isplitl [Ha]; · iexact Ha
  rw [bigSep_congr (s := Finset.univ.erase i) fun x hx => congrArg (Φ x) (Function.update_of_ne (Finset.ne_of_mem_erase hx) a st)]
  iexact Hr

end Cert.KernelIdeal.Run

end

end
-- ==== Proof.Steps.lean ====
/- One lemma per shape of operation: from the resources a bookkeeping state stands for to those of the next. -/
module

public import proofs.«01_k».proof.Proof.Mem

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The resources of a state -/

/-- The product of the two scales. -/
def scal (c : Dev nD) : F .f32 :=
  k0_pay61 ((sxS.access scR).read (Elt F) (sxstg m ρ c) (Shape.Idx.first (numel1_S1.symm ▸ Nat.one_pos)))
    ((swS.access scR).read (Elt F) (swstg m ρ c) (Shape.Idx.first (numel1_S1.symm ▸ Nat.one_pos)))

/-- A group's rows of the result. -/
def resV (g : Fin 6) (c : Dev nD) : FVec F (P2 g) .f32 :=
  finV (scal m ρ c) g (val m ρ g 3 c c) (val m ρ g 3 (xr c (maskOf g 3)) c)

def pieceRes (c e : Dev nD) (g : Fin 6) (v : Fin 5) : sProp 𝕄 :=
  if v = 0 then iprop(∃ X, piecePts (F := F) c (xr c e) g X) else if v = 4 then iprop(emp)
  else piecePts c (xr c e) g (val m ρ g v.val c (xr c e))

def sndRes (c : Dev nD) (gs : GS) (v : Fin 3) : sProp 𝕄 :=
  if v = 0 then iprop(dutyTok ER (kcell (c, sndK gs)) 0 0 ∗ dutyTok ER (kcell (xr c (peer gs), rcvK gs)) 0 0
      ∗ atPos ER (kcell (c, sndK gs)) 0 ∅ 0 ∗ ∃ Y, slotPts (F := F) (xr c (peer gs)) gs Y)
  else if v = 1 then iprop(cred (tallyAt (kcell (c, sndK gs)) () (crd gs.1)) ∗ atPos ER (kcell (c, sndK gs)) 0 ∅ 0)
  else atPos ER (kcell (c, sndK gs)) 1 ∅ 0

def rcvRes (c : Dev nD) (gs : GS) (b : Bool) : sProp 𝕄 :=
  if b then iprop(atPos ER (kcell (c, rcvK gs)) 1 ∅ 0 ∗ ∃ Y, slotPts (F := F) c gs Y)
  else iprop(cred (tallyAt (kcell (c, rcvK gs)) () (crd gs.1)) ∗ atPos ER (kcell (c, rcvK gs)) 0 ∅ 0)

def outRes (c : Dev nD) (g : Fin 6) (b : Bool) : sProp 𝕄 :=
  if b then outPts c g (resV m ρ g c) else iprop(∃ X, outPts (F := F) c g X)

/-- What is still owed, the transfers `S` unsent. -/
def Orun (c : Dev nD) (S : Finset GS) : CellTallies nD τ sig Unit := Osend c S + Ohand true c Finset.univ

/-- The staged operand and the weights' copy. -/
def staged (c : Dev nD) : sProp 𝕄 :=
  iprop(((c : Thread nD τ).loc cc0_stg0_0 ↦{fullShare} (xstg m ρ c)) ∗ ((c : Thread nD τ).loc cc0_scratch1 ↦{fullShare} (k0_pay1 (wstg m ρ c))))

def accRes (c : Dev nD) (acc : Dev nD → Fin 6 → Fin 5) : sProp 𝕄 :=
  bigSep Finset.univ fun e : Dev nD => bigSep Finset.univ fun g : Fin 6 => pieceRes m ρ c e g (acc e g)

def Inv (c : Dev nD) (st : St) : sProp 𝕄 :=
  iprop(accRes m ρ c st.acc
    ∗ (bigSep Finset.univ fun gs => sndRes (F := F) c gs (st.snd gs))
    ∗ (bigSep Finset.univ fun gs => rcvRes (F := F) c gs (st.rcv gs))
    ∗ (bigSep Finset.univ fun g => outRes m ρ c g (st.out g))
    ∗ (∃ W, owes (c : Thread nD τ) (Orun c st.unsent) W) ∗ staged m ρ c)

variable (K : Dev nD × Cell → ℕ)

/-- Every cell's invariant, and that its round has opened. -/
def recs : sProp 𝕄 :=
  bigSep Finset.univ fun ck : Dev nD × Cell => iprop(cellInv ER (rd (F := F) m ρ) (K ck) (kcell ck) ∗ reached ER (kcell ck) 0)

instance recs_persistent : BI.Persistent (recs (F := F) m ρ K) := by unfold recs; infer_instance

theorem recs_at (ck : Dev nD × Cell) :
    recs (F := F) m ρ K ⊢ iprop(cellInv ER (rd (F := F) m ρ) (K ck) (kcell ck) ∗ reached ER (kcell ck) 0) := by
  unfold recs; rw [bigSep_univ_at _ ck]
  iintro ⟨H, -⟩; iexact H

/-! ## Changing a piece -/

theorem acc_at (c e : Dev nD) (acc : Dev nD → Fin 6 → Fin 5) (g : Fin 6) :
    accRes (F := F) m ρ c acc ⊢ iprop(pieceRes m ρ c e g (acc e g)
      ∗ ∀ v, pieceRes m ρ c e g v -∗ accRes m ρ c (setAcc acc e g v)) := by
  unfold accRes setAcc
  iintro H
  ihave H' := (bigSep_at (F := F) (fun (e : Dev nD) (a : Fin 6 → Fin 5) => bigSep Finset.univ fun g : Fin 6 => pieceRes m ρ c e g (a g)) acc e) $$ H
  icases H' with ⟨Hrow, Hback⟩
  ihave H' := (bigSep_at (F := F) (fun (g : Fin 6) (v : Fin 5) => pieceRes m ρ c e g v) (acc e) g) $$ Hrow
  icases H' with ⟨Hp, Hrow⟩
  isplitl [Hp]; · iexact Hp
  iintro %v Hv
  iapply Hback
  iapply Hrow
  iexact Hv

theorem setAcc_self (acc : Dev nD → Fin 6 → Fin 5) (e : Dev nD) (g : Fin 6) : setAcc acc e g (acc e g) = acc := by
  unfold setAcc; rw [Function.update_eq_self, Function.update_eq_self]

/-! ## What is owed -/

theorem unsent_send (st : St) (gs : GS) (h : st.snd gs = 0) :
    gs ∈ st.unsent ∧ ∀ acc rcv out, (St.mk acc (Function.update st.snd gs 1) rcv out).unsent = st.unsent.erase gs := by
  refine ⟨by simp [St.unsent, h], fun acc rcv out => ?_⟩
  ext x
  by_cases hx : x = gs
  · subst hx; simp [St.unsent]
  · simp [St.unsent, hx]

theorem unsent_wsend (st : St) (gs : GS) (h : st.snd gs = 1) :
    ∀ acc rcv out, (St.mk acc (Function.update st.snd gs 2) rcv out).unsent = st.unsent := by
  intro acc rcv out
  ext x
  by_cases hx : x = gs
  · subst hx; simp [St.unsent, h]
  · simp [St.unsent, hx]

theorem Orun_erase (c : Dev nD) (S : Finset GS) (gs : GS) (h : gs ∈ S) :
    Orun c S = Orun c (S.erase gs) + tallyAt (kcell (xr c (peer gs), rcvK gs)) () (crd gs.1) := by
  unfold Orun Osend
  rw [← Finset.sum_erase_add S _ h, add_right_comm]

theorem mayWait_run (c : Dev nD) (k : Cell) (S : Finset GS) (h6 : levOf k < 6) (hS : ∀ gs ∈ S, levOf k < (lev gs.2).val + 1) :
    (levAts L lv : sProp 𝕄) ⊢ MayWait (c : Thread nD τ) (csem k) () (Orun c S) :=
  mayWait_of c (csem k) (Orun c S) fun g u hg => by
    rw [show lv ((c : Thread nD τ), csem k) () = levOf k from lv_at c k]
    rcases add_pos' hg with h | h
    · obtain ⟨gs, hgs, rfl⟩ := Osend_pos h
      exact ⟨_, _, rfl, hS gs hgs⟩
    · obtain ⟨d, -, rfl⟩ := Ohand_pos h
      exact ⟨_, _, rfl, h6⟩

/-! ## Units -/

theorem slot_crd : ∀ gs : GS, (slotP gs.1 gs.2).view.dmaCredit = crd gs.1 := by
  rintro ⟨g, s⟩; fin_cases g <;> rfl
theorem acc_crd (g : Fin 6) (o : Fin 3 → ℕ) (ho : InAcc g o) : (accP g o ho).view.dmaCredit = crd g := by
  fin_cases g <;> rfl

/-! ## Waits -/

theorem wait_xfer (c : Dev nD) (b : Bool) (gs : GS) (S : Finset GS) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem (.inr (b, gs))) (crd gs.1) Kt)
    (h6 : levOf (.inr (b, gs)) < 6) (hS : ∀ gs' ∈ S, levOf (.inr (b, gs)) < (lev gs'.2).val + 1)
    {α : Type} {k : PUnit → Prog (TpuEff nD τ sig (Elt F) Λ₀ .tc) α} {Q : α → sProp 𝕄} :
    iprop(recs m ρ K ∗ levAts L lv ∗ cred (tallyAt (kcell (c, .inr (b, gs))) () (crd gs.1)) ∗ atPos ER (kcell (c, .inr (b, gs))) 0 ∅ 0
        ∗ (∃ W, owes (c : Thread nD τ) (Orun c S) W)
        ∗ ((atPos ER (kcell (c, .inr (b, gs))) 1 ∅ 0 ∗ (∃ W, owes (c : Thread nD τ) (Orun c S) W) ∗ pay m ρ c 0 (.inr (b, gs))) -∗ WP c (k ⟨⟩) Q))
      ⊢ WP c (.op w k) Q := by
  iintro ⟨#HR, #Hlev, Hc, Hat, ⟨%W, HO⟩, Hk⟩
  ihave Hr := (recs_at m ρ K (c, .inr (b, gs))) $$ HR
  icases Hr with ⟨#HI, -⟩
  iapply (Rounds.wp_wait_rest_token 𝒱₀ ER (rd m ρ) (c : Thread nD τ) none (κ := K (c, .inr (b, gs))) hw (Set.mem_univ _) ()
      (O := Orun c S) (W := W) (R := 0) (m := 0) (T := ∅) (by rw [Nat.zero_add]; exact (expect_xfer m ρ c b gs).symm)) $$ [Hc HO Hat]
  · isplitr; · iexact HI
    isplitl [Hc]; · iexact Hc
    isplitl [HO]; · iexact HO
    isplitr; · iapply (mayWait_run c _ S h6 hS); iexact Hlev
    iexact Hat
  iintro ⟨HO, Hat, -, Hpay⟩
  ihave Hp := (Entails.of_eq (rest_xfer m ρ c b gs)) $$ Hpay
  iapply Hk
  isplitl [Hat]; · iexact Hat
  isplitl [HO]; · iexists _; iexact HO
  iexact Hp

end Cert.KernelIdeal.Run

end

end
-- ==== Proof.Moves.lean ====
/- The operations' lemmas and the run of a list. -/
module

public import proofs.«01_k».proof.Proof.Steps

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## Squeezed views -/

theorem sq_pts (c : Dev nD) {g : Fin 6} (v : Memref sig .tc .vmem (P3 g) .bf16) (q : PosShare TreeShare)
    (f : Buf (Elt F) (v.view.loc (c : Thread nD τ))) :
    (((v.squeeze (P2 g) (P3_sq g)).view.loc (c : Thread nD τ) ↦[(v.squeeze (P2 g) (P3_sq g)).view.set]{q} f) : sProp 𝕄)
      = (v.view.loc (c : Thread nD τ) ↦[v.view.set]{q} f) :=
  congrArg (fun S => (v.view.loc (c : Thread nD τ) ↦[S]{q} f : sProp 𝕄)) (View.set_reshape _ _)

theorem sq_read {g : Fin 6} (v v' : Memref sig .tc .vmem (P3 g) .bf16) (f : v.view.ty.Contents (Elt F)) (f' : v'.view.ty.Contents (Elt F))
    (h : (v.squeeze (P2 g) (P3_sq g)).view.read (Elt F) f = (v'.squeeze (P2 g) (P3_sq g)).view.read (Elt F) f') :
    v.view.read (Elt F) f = v'.view.read (Elt F) f' := by
  funext i
  have e : (Shape.reshapeEquiv (P3_sq g).numel_eq) ((Shape.reshapeEquiv (P3_sq g).numel_eq).symm i) = i := Equiv.apply_symm_apply _ i
  have h' := congrFun h ((Shape.reshapeEquiv (P3_sq g).numel_eq).symm i)
  have h1 : v.view.read (Elt F) f ((Shape.reshapeEquiv (P3_sq g).numel_eq) ((Shape.reshapeEquiv (P3_sq g).numel_eq).symm i))
      = v'.view.read (Elt F) f' ((Shape.reshapeEquiv (P3_sq g).numel_eq) ((Shape.reshapeEquiv (P3_sq g).numel_eq).symm i)) := h'
  rwa [e] at h1

/-! ## The send -/

theorem slotV_sent (c : Dev nD) (gs : GS) :
    slotV m ρ gs (xr c (peer gs)) = val m ρ gs.1 (lev gs.2).val c (xr c (smk gs)) := by
  unfold slotV; rw [xr_xr, ← smk_eq]

theorem send_owned (c n : Dev nD) (gs : GS) (hn : n = xr c (peer gs)) (ho : InAcc gs.1 ![(xr c (smk gs)).val, roff gs.1, 0])
    {hsc} {hsrc} {hdst} {hsem} {O : CellTallies nD τ sig Unit} {W : Waits sig Unit} (Y : (P3 gs.1).Idx → Elt F .bf16)
    {α : Type} {k : PUnit → Prog (TpuEff nD τ sig (Elt F) Λ₀ .tc) α} {Q : α → sProp 𝕄} :
    iprop(recs m ρ K ∗ piecePts c (xr c (smk gs)) gs.1 (val m ρ gs.1 (lev gs.2).val c (xr c (smk gs))) ∗ slotPts (xr c (peer gs)) gs Y
        ∗ owes (c : Thread nD τ) (O + tallyAt (kcell (xr c (peer gs), rcvK gs)) () (crd gs.1)) W
        ∗ dutyTok ER (kcell (c, sndK gs)) 0 0 ∗ dutyTok ER (kcell (xr c (peer gs), rcvK gs)) 0 0)
      ⊢ iprop(((cred (tallyAt (kcell (c, sndK gs)) () (crd gs.1)) ∗ owes (c : Thread nD τ) O W) -∗ WP c (k ⟨⟩) Q)
          -∗ WP c (.op (.enqueueDma (accP gs.1 ![(xr c (smk gs)).val, roff gs.1, 0] ho)
              (.remote (Dev.tc n : Thread nD τ) (slotP gs.1 gs.2) (.dma (sndSem gs.1 gs.2)) hsc) (.dma (rcvSem gs.1 gs.2)) hsrc hdst hsem) k) Q) := by
  subst hn
  unfold piecePts slotPts owns
  iintro ⟨#HR, ⟨%fs, %hfs, Hs⟩, ⟨%fd, %hfd, Hd⟩, HO, Ht, Ht'⟩ Hk
  ihave Hr := (recs_at m ρ K (c, sndK gs)) $$ HR
  icases Hr with ⟨#HI, #Hr1⟩
  ihave Hr := (recs_at m ρ K (xr c (peer gs), rcvK gs)) $$ HR
  icases Hr with ⟨#HI', #Hr2⟩
  iapply (Rounds.wp_send_pointsTo 𝒱₀ ER (rd m ρ) (c : Thread nD τ) none (κ₁ := K (c, sndK gs)) (κ₂ := K (xr c (peer gs), rcvK gs))
    (c' := (xr c (peer gs) : Thread nD τ)) (src := accP gs.1 ![(xr c (smk gs)).val, roff gs.1, 0] ho) (dst := slotP gs.1 gs.2)
    (sS := .dma (sndSem gs.1 gs.2)) (sem := .dma (rcvSem gs.1 gs.2)) (fs := fs)
    (r₁ := 0) (r₂ := 0) (d₁ := 0) (d₂ := 0) (fd := fd)
    (by rw [show (((c : Thread nD τ), SemLoc.dma (sndSem gs.1 gs.2)) : GSem nD τ sig) = kcell (c, sndK gs) from rfl, duties_at]; exact Finset.mem_singleton_self _)
    (by rw [show (((xr c (peer gs) : Thread nD τ), SemLoc.dma (rcvSem gs.1 gs.2)) : GSem nD τ sig) = kcell (xr c (peer gs), rcvK gs) from rfl, duties_at]; exact Finset.mem_singleton_self _)
    () () (crd gs.1) (slot_crd gs) (amount_at m ρ c (sndK gs) 0) (amount_at m ρ (xr c (peer gs)) (rcvK gs) 0) O rfl (W := W)
    (by
      refine BIBase.Entails.trans ?_ (Entails.of_eq (payload_at m ρ c (sndK gs) 0).symm)
      rw [sq_pts]
      unfold pay
      iintro H
      iexists (accM.slice (pieceR (xr c (smk gs)) gs.1) (fun _ => rfl)).view.read (Elt F) fs
      unfold piecePts; iapply (owns_intro (c : Thread nD τ) (accM.slice (pieceR (xr c (smk gs)) gs.1) (fun _ => rfl)) fullShare fs); iexact H)
    (by
      refine BIBase.Entails.trans ?_ (Entails.of_eq (payload_at m ρ (xr c (peer gs)) (rcvK gs) 0).symm)
      rw [sq_pts]
      unfold pay slotPts owns
      iintro H
      iexists _; isplitr
      rotate_left
      · iexact H
      · ipureintro
        rw [slotV_sent, ← hfs]
        exact sq_read _ (accM.slice (pieceR (xr c (smk gs)) gs.1) (fun _ => rfl)) _ fs (View.read_write_univ _ _))) $$ [Hs Hd HO Ht Ht']
  · isplitr; · iexact HI
    isplitr; · iexact HI'
    isplitl [Hs]; · rw [sq_pts]; iexact Hs
    isplitl [Hd]; · rw [sq_pts]; iexact Hd
    isplitl [HO]; · iexact HO
    isplitl [Ht]; · iexact Ht
    isplitr; · iexact Hr1
    isplitl [Ht']; · iexact Ht'
    iexact Hr2
  iexact Hk

/-! ## The operations -/

theorem xr_zero (c : Dev nD) : xr c 0 = c := by revert c; decide

theorem lev_facts : ∀ s : Fin 7, lev s ≠ 0 ∧ lev s ≠ 4 ∧ 1 ≤ (lev s).val
    ∧ ((lev s).val < 3 → lev s + 1 ≠ 0 ∧ lev s + 1 ≠ 4 ∧ (lev s + 1).val = (lev s).val + 1) := by decide

theorem pieceRes_raw (c e : Dev nD) (g : Fin 6) : pieceRes (F := F) m ρ c e g 0 = iprop(∃ X, piecePts (F := F) c (xr c e) g X) := if_pos rfl
theorem pieceRes_lent (c e : Dev nD) (g : Fin 6) : pieceRes (F := F) m ρ c e g 4 = iprop(emp) := by
  unfold pieceRes; rw [if_neg (by decide), if_pos rfl]
theorem pieceRes_val (c e : Dev nD) (g : Fin 6) (v : Fin 5) (h0 : v ≠ 0) (h4 : v ≠ 4) :
    pieceRes (F := F) m ρ c e g v = piecePts c (xr c e) g (val m ρ g v.val c (xr c e)) := by
  unfold pieceRes; rw [if_neg h0, if_neg h4]
theorem pieceRes_lev (c e : Dev nD) (g : Fin 6) (s : Fin 7) :
    pieceRes (F := F) m ρ c e g (lev s) = piecePts c (xr c e) g (val m ρ g (lev s).val c (xr c e)) :=
  pieceRes_val m ρ c e g _ (lev_facts s).1 (lev_facts s).2.1

theorem val_succ (g : Fin 6) (ℓ : ℕ) (h : 1 ≤ ℓ) (c j : Dev nD) :
    val (F := F) m ρ g (ℓ + 1) c j = comb g (val m ρ g ℓ c j) (val m ρ g ℓ (xr c (maskOf g ℓ)) j) := by
  obtain ⟨n, rfl⟩ := Nat.exists_eq_add_of_le' h; rfl

theorem sndRes_unsent (c : Dev nD) (gs : GS) : sndRes (F := F) c gs 0
    = iprop(dutyTok ER (kcell (c, sndK gs)) 0 0 ∗ dutyTok ER (kcell (xr c (peer gs), rcvK gs)) 0 0
      ∗ atPos ER (kcell (c, sndK gs)) 0 ∅ 0 ∗ ∃ Y, slotPts (F := F) (xr c (peer gs)) gs Y) := if_pos rfl
theorem sndRes_flight (c : Dev nD) (gs : GS) : sndRes (F := F) c gs 1
    = iprop(cred (tallyAt (kcell (c, sndK gs)) () (crd gs.1)) ∗ atPos ER (kcell (c, sndK gs)) 0 ∅ 0) := by
  unfold sndRes; rw [if_neg (by decide), if_pos rfl]
theorem sndRes_back (c : Dev nD) (gs : GS) : sndRes (F := F) c gs 2 = atPos ER (kcell (c, sndK gs)) 1 ∅ 0 := by
  unfold sndRes; rw [if_neg (by decide), if_neg (by decide)]
theorem rcvRes_no (c : Dev nD) (gs : GS) : rcvRes (F := F) c gs false
    = iprop(cred (tallyAt (kcell (c, rcvK gs)) () (crd gs.1)) ∗ atPos ER (kcell (c, rcvK gs)) 0 ∅ 0) := if_neg (by decide)
theorem rcvRes_yes (c : Dev nD) (gs : GS) : rcvRes (F := F) c gs true
    = iprop(atPos ER (kcell (c, rcvK gs)) 1 ∅ 0 ∗ ∃ Y, slotPts (F := F) c gs Y) := if_pos rfl
theorem outRes_no (c : Dev nD) (g : Fin 6) : outRes m ρ c g false = iprop(∃ X, outPts (F := F) c g X) := if_neg (by decide)
theorem outRes_yes (c : Dev nD) (g : Fin 6) : outRes (F := F) m ρ c g true = outPts c g (resV m ρ g c) := if_pos rfl

theorem send_step (c : Dev nD) (sc : F .f32) (gs : GS) (o : Fin 3 → ℕ) (ho : InAcc gs.1 o) (hw) (n : Dev nD)
    (hn : n = xr c (peer gs)) (hoo : o = ![(xr c (smk gs)).val, roff gs.1, 0]) (st : St)
    (hp : st.acc (smk gs) gs.1 = lev gs.2 ∧ st.snd gs = 0) (Φ : sProp 𝕄) :
    iprop(recs m ρ K ∗ levAts L lv ∗ Inv m ρ c st
        ∗ (Inv m ρ c { st with acc := setAcc st.acc (smk gs) gs.1 4, snd := Function.update st.snd gs 1 } -∗ Φ))
      ⊢ WP c (Op.run sc (.send gs.1 gs.2 o ho hw n)) fun _ => Φ := by
  subst hoo
  simp only [Op.run, Prog.lift]
  unfold Inv
  iintro ⟨#HR, #Hlev, ⟨Hacc, Hsnd, Hrcv, Hout, ⟨%W, HO⟩, Hstg⟩, Hk⟩
  ihave H := (acc_at m ρ c (smk gs) st.acc gs.1) $$ Hacc
  icases H with ⟨Hp, Hacc⟩
  ihave H := (bigSep_at (F := F) (fun gs v => sndRes (F := F) c gs v) st.snd gs) $$ Hsnd
  icases H with ⟨Hs, Hsnd⟩
  ihave Hp := (Entails.of_eq ((congrArg (pieceRes m ρ c (smk gs) gs.1) hp.1).trans (pieceRes_lev m ρ c (smk gs) gs.1 gs.2))) $$ Hp
  ihave Hs := (Entails.of_eq ((congrArg (sndRes (F := F) c gs) hp.2).trans (sndRes_unsent c gs))) $$ Hs
  ihave HO := (Entails.of_eq (congrArg (fun O => (owes (c : Thread nD τ) O W : sProp 𝕄))
    (Orun_erase c st.unsent gs (unsent_send st gs hp.2).1))) $$ HO
  icases Hs with ⟨Ht, Ht', Hat, ⟨%Y, Hd⟩⟩
  iapply (send_owned m ρ K c n gs hn ho Y) $$ [Hp Hd HO Ht Ht']
  · isplitr; · iexact HR
    isplitl [Hp]; · iexact Hp
    isplitl [Hd]; · iexact Hd
    isplitl [HO]; · iexact HO
    isplitl [Ht]; · iexact Ht
    iexact Ht'
  iintro ⟨Hc, HO⟩
  unfold WP; rw [wp_ret]; imodintro
  iapply Hk
  rw [(unsent_send st gs hp.2).2]
  isplitl [Hacc]; · iapply Hacc; rw [pieceRes_lent]; iempintro
  isplitl [Hsnd Hc Hat]
  · iapply Hsnd; rw [sndRes_flight]
    isplitl [Hc]; · iexact Hc
    iexact Hat
  isplitl [Hrcv]; · iexact Hrcv
  isplitl [Hout]; · iexact Hout
  isplitl [HO]; · iexists W; iexact HO
  iexact Hstg

theorem wsend_step (c : Dev nD) (sc : F .f32) (gs : GS) (o : Fin 3 → ℕ) (ho : InAcc gs.1 o) (hw) (st : St)
    (hp : st.acc (smk gs) gs.1 = 4 ∧ st.snd gs = 1 ∧ ∀ gs, st.snd gs ≠ 0) (Φ : sProp 𝕄) :
    iprop(recs m ρ K ∗ levAts L lv ∗ Inv m ρ c st
        ∗ (Inv m ρ c { st with acc := setAcc st.acc (smk gs) gs.1 0, snd := Function.update st.snd gs 2 } -∗ Φ))
      ⊢ WP c (Op.run sc (.wsend gs.1 gs.2 o ho hw)) fun _ => Φ := by
  simp only [Op.run, Prog.lift]
  unfold Inv
  iintro ⟨#HR, #Hlev, ⟨Hacc, Hsnd, Hrcv, Hout, HO, Hstg⟩, Hk⟩
  ihave H := (acc_at m ρ c (smk gs) st.acc gs.1) $$ Hacc
  icases H with ⟨-, Hacc⟩
  ihave H := (bigSep_at (F := F) (fun gs v => sndRes (F := F) c gs v) st.snd gs) $$ Hsnd
  icases H with ⟨Hs, Hsnd⟩
  ihave Hs := (Entails.of_eq ((congrArg (sndRes (F := F) c gs) hp.2.1).trans (sndRes_flight c gs))) $$ Hs
  icases Hs with ⟨Hc, Hat⟩
  iapply (wait_xfer m ρ K c false gs st.unsent
    (fun Kt => (wpE_waitDma2_eq 𝒱₀ (c : Thread nD τ) none Set.univ Kt).trans
      (congrArg (fun n => waitSpec (c : Thread nD τ) Set.univ (csem (sndK gs)) n Kt) (acc_crd gs.1 o ho)))
    (by show (5 : ℕ) < 6; omega) (fun gs' h => absurd (Finset.mem_filter.mp h).2 (hp.2.2 gs')))
  isplitr; · iexact HR
  isplitr; · iexact Hlev
  isplitl [Hc]; · iexact Hc
  isplitl [Hat]; · iexact Hat
  isplitl [HO]; · iexact HO
  iintro ⟨Hat, HO, Hp⟩
  unfold WP; rw [wp_ret]; imodintro
  iapply Hk
  rw [unsent_wsend st gs hp.2.1]
  isplitl [Hacc Hp]
  · iapply Hacc; rw [pieceRes_raw]; unfold pay; iexact Hp
  isplitl [Hsnd Hat]
  · iapply Hsnd; rw [sndRes_back]; iexact Hat
  isplitl [Hrcv]; · iexact Hrcv
  isplitl [Hout]; · iexact Hout
  isplitl [HO]; · iexact HO
  iexact Hstg

theorem wacc_step (c : Dev nD) (sc : F .f32) (gs : GS) (o : Fin 3 → ℕ) (ho : InAcc gs.1 o) (hpk)
    (hoo : o = ![(xr c (dm gs)).val, roff gs.1, 0]) (st : St)
    (hp : st.acc (dm gs) gs.1 = lev gs.2 ∧ st.rcv gs = false ∧ (lev gs.2).val < 3 ∧ ∀ gs', st.snd gs' = 0 → lev gs.2 < lev gs'.2)
    (Φ : sProp 𝕄) :
    iprop(recs m ρ K ∗ levAts L lv ∗ Inv m ρ c st
        ∗ (Inv m ρ c { st with acc := setAcc st.acc (dm gs) gs.1 (lev gs.2 + 1), rcv := Function.update st.rcv gs true } -∗ Φ))
      ⊢ WP c (Op.run sc (.wacc gs.1 gs.2 o ho hpk)) fun _ => Φ := by
  subst hoo
  simp only [Op.run, Prog.lift, Prog.bind_op, Prog.bind_ret]
  unfold Inv
  iintro ⟨#HR, #Hlev, ⟨Hacc, Hsnd, Hrcv, Hout, HO, Hstg⟩, Hk⟩
  ihave H := (acc_at m ρ c (dm gs) st.acc gs.1) $$ Hacc
  icases H with ⟨Hp, Hacc⟩
  ihave H := (bigSep_at (F := F) (fun gs v => rcvRes (F := F) c gs v) st.rcv gs) $$ Hrcv
  icases H with ⟨Hr, Hrcv⟩
  ihave Hp := (Entails.of_eq ((congrArg (pieceRes m ρ c (dm gs) gs.1) hp.1).trans (pieceRes_lev m ρ c (dm gs) gs.1 gs.2))) $$ Hp
  ihave Hr := (Entails.of_eq ((congrArg (rcvRes (F := F) c gs) hp.2.1).trans (rcvRes_no c gs))) $$ Hr
  icases Hr with ⟨Hc, Hat⟩
  iapply (wait_xfer m ρ K c true gs st.unsent
    (fun Kt => (wpE_waitDma2_eq 𝒱₀ (c : Thread nD τ) none Set.univ Kt).trans
      (congrArg (fun n => waitSpec (c : Thread nD τ) Set.univ (csem (rcvK gs)) n Kt) (slot_crd gs)))
    (by show (lev gs.2).val + 1 < 6; have := hp.2.2.1; omega)
    (fun gs' h => Nat.succ_lt_succ (hp.2.2.2 gs' (Finset.mem_filter.mp h).2)))
  isplitr; · iexact HR
  isplitr; · iexact Hlev
  isplitl [Hc]; · iexact Hc
  isplitl [Hat]; · iexact Hat
  isplitl [HO]; · iexact HO
  iintro ⟨Hat, HO, Hs⟩
  unfold pay piecePts slotPts
  iapply (load_owned c accM (pieceR (xr c (dm gs)) gs.1) (fun _ => rfl)) $$ Hp
  iintro Hp
  iapply (load_owned c (rcvM gs.1) (slotR gs.1 gs.2) (fun _ => rfl)) $$ Hs
  iintro Hs
  iapply (load_owned c accM (pieceR (xr c (dm gs)) gs.1) (fun _ => rfl)) $$ Hp
  iintro Hp
  iapply (store_owned c accM (pieceR (xr c (dm gs)) gs.1) (fun _ => rfl)) $$ Hp
  iintro Hp
  unfold WP; rw [wp_ret]; imodintro
  iapply Hk
  isplitl [Hacc Hp]
  · iapply Hacc
    obtain ⟨h0, h4, hv⟩ := (lev_facts gs.2).2.2.2 hp.2.2.1
    rw [pieceRes_val m ρ c (dm gs) gs.1 _ h0 h4, hv, val_succ m ρ gs.1 _ (lev_facts gs.2).2.2.1]
    unfold piecePts
    iexact Hp
  isplitl [Hsnd]; · iexact Hsnd
  isplitl [Hrcv Hat Hs]
  · iapply Hrcv; rw [rcvRes_yes]
    isplitl [Hat]; · iexact Hat
    unfold slotPts; iexists _; iexact Hs
  isplitl [Hout]; · iexact Hout
  isplitl [HO]; · iexact HO
  iexact Hstg

theorem fin_step (c : Dev nD) (g : Fin 6) (o : Fin 3 → ℕ) (ho : InAcc g o)
    (hoo : o = ![c.val, roff g, 0]) (st : St)
    (hp : st.acc 0 g = 3 ∧ st.rcv (g, 6) = false ∧ st.out g = false ∧ ∀ gs, st.snd gs ≠ 0) (Φ : sProp 𝕄) :
    iprop(recs m ρ K ∗ levAts L lv ∗ Inv m ρ c st
        ∗ (Inv m ρ c { st with rcv := Function.update st.rcv (g, 6) true, out := Function.update st.out g true } -∗ Φ))
      ⊢ WP c (Op.run (scal m ρ c) (.fin g o ho)) fun _ => Φ := by
  subst hoo
  simp only [Op.run, Prog.lift, Prog.bind_op, Prog.bind_ret]
  unfold Inv
  iintro ⟨#HR, #Hlev, ⟨Hacc, Hsnd, Hrcv, Hout, HO, Hstg⟩, Hk⟩
  ihave H := (acc_at m ρ c 0 st.acc g) $$ Hacc
  icases H with ⟨Hp, Hacc⟩
  ihave H := (bigSep_at (F := F) (fun gs v => rcvRes (F := F) c gs v) st.rcv (g, 6)) $$ Hrcv
  icases H with ⟨Hr, Hrcv⟩
  ihave H := (bigSep_at (F := F) (fun g v => outRes m ρ c g v) st.out g) $$ Hout
  icases H with ⟨Ho, Hout⟩
  ihave Hp := (Entails.of_eq (((congrArg (pieceRes m ρ c 0 g) hp.1).trans (pieceRes_val m ρ c 0 g 3 (by decide) (by decide))).trans
    (by rw [xr_zero]; rfl) : pieceRes m ρ c 0 g (st.acc 0 g) = piecePts c c g (val m ρ g 3 c c))) $$ Hp
  ihave Hr := (Entails.of_eq ((congrArg (rcvRes (F := F) c (g, 6)) hp.2.1).trans (rcvRes_no c (g, 6)))) $$ Hr
  ihave Ho := (Entails.of_eq ((congrArg (outRes m ρ c g) hp.2.2.1).trans (outRes_no m ρ c g))) $$ Ho
  icases Hr with ⟨Hc, Hat⟩
  icases Ho with ⟨%X, Ho⟩
  iapply (wait_xfer m ρ K c true (g, 6) st.unsent
    (fun Kt => (wpE_waitDma2_eq 𝒱₀ (c : Thread nD τ) none Set.univ Kt).trans
      (congrArg (fun n => waitSpec (c : Thread nD τ) Set.univ (csem (rcvK (g, 6))) n Kt) (slot_crd (g, 6))))
    (by show (4 : ℕ) < 6; omega) (fun gs' h => absurd (Finset.mem_filter.mp h).2 (hp.2.2.2 gs')))
  isplitr; · iexact HR
  isplitr; · iexact Hlev
  isplitl [Hc]; · iexact Hc
  isplitl [Hat]; · iexact Hat
  isplitl [HO]; · iexact HO
  iintro ⟨Hat, HO, Hs⟩
  unfold pay piecePts slotPts outPts
  iapply (load_owned c accM (pieceR c g) (fun _ => rfl)) $$ Hp
  iintro Hp
  iapply (load_owned c (rcvM g) (slotR g 6) (fun _ => rfl)) $$ Hs
  iintro Hs
  iapply (load_owned c outS (outR g) (fun _ => rfl)) $$ Ho
  iintro Ho
  iapply (store_owned c outS (outR g) (fun _ => rfl)) $$ Ho
  iintro Ho
  unfold WP; rw [wp_ret]; imodintro
  iapply Hk
  isplitl [Hacc Hp]
  · iapply (Entails.of_eq (congrArg (accRes m ρ c) (setAcc_self st.acc 0 g)))
    iapply Hacc
    rw [hp.1, pieceRes_val m ρ c 0 g 3 (by decide) (by decide), xr_zero]
    unfold piecePts
    iexact Hp
  isplitl [Hsnd]; · iexact Hsnd
  isplitl [Hrcv Hat Hs]
  · iapply Hrcv; rw [rcvRes_yes]
    isplitl [Hat]; · iexact Hat
    unfold slotPts; iexists _; iexact Hs
  isplitl [Hout Ho]
  · iapply Hout; rw [outRes_yes]
    unfold resV outPts
    have e : slotV m ρ (g, 6) c = val m ρ g 3 (xr c (maskOf g 3)) c := by
      show val m ρ g 3 (xr c (maskOf g 3)) (xr c 0) = _
      rw [xr_zero]
    rw [← e]
    iexact Ho
  isplitl [HO]; · iexact HO
  iexact Hstg

theorem gemm_step (c : Dev nD) (sc : F .f32) (e : Dev nD) (ox : Fin 2 → ℕ) (hx) (oa : Fin 3 → ℕ) (ha) (hpk)
    (hox : ox = ![512 * (xr c e).val, 0]) (hoa : oa = ![(xr c e).val, 0, 0]) (st : St)
    (hp : ∀ g, st.acc e g = 0) (Φ : sProp 𝕄) :
    iprop(recs m ρ K ∗ levAts L lv ∗ Inv m ρ c st
        ∗ (Inv m ρ c { st with acc := Function.update st.acc e fun _ => 1 } -∗ Φ))
      ⊢ WP c (Op.run sc (.gemm ox hx oa ha hpk)) fun _ => Φ := by
  subst hox hoa
  simp only [Op.run, Prog.lift, Prog.bind_op, Prog.bind_ret]
  unfold Inv accRes staged
  iintro ⟨#HR, #Hlev, ⟨Hacc, Hsnd, Hrcv, Hout, HO, ⟨Hxs, Hws⟩⟩, Hk⟩
  ihave H := (bigSep_at (F := F) (fun (e : Dev nD) (a : Fin 6 → Fin 5) => bigSep Finset.univ fun g : Fin 6 => pieceRes m ρ c e g (a g)) st.acc e) $$ Hacc
  icases H with ⟨Hrow, Hacc⟩
  ihave Hrow := (Entails.of_eq (bigSep_congr (s := Finset.univ) fun g (_ : g ∈ Finset.univ) =>
    (congrArg (pieceRes m ρ c e g) (hp g)).trans (pieceRes_raw m ρ c e g))) $$ Hrow
  ihave H := (chunk_join c (xr c e)) $$ Hrow
  icases H with ⟨%X, Hch⟩
  iapply (wp_load 𝒱₀ (c : Thread nD τ) none Set.univ (m := xS) (Finset.subset_univ _)) $$ Hxs
  iintro Hxs
  iapply (wp_load 𝒱₀ (c : Thread nD τ) none Set.univ (m := wM) (Finset.subset_univ _)) $$ Hws
  iintro Hws
  iapply (load_owned c accM (chunkR (xr c e)) (fun _ => rfl)) $$ Hch
  iintro Hch
  iapply (store_owned c accM (chunkR (xr c e)) (fun _ => rfl)) $$ Hch
  iintro Hch
  unfold WP; rw [wp_ret]; imodintro
  iapply Hk
  isplitl [Hacc Hch]
  · iapply Hacc
    rw [bigSep_congr (s := Finset.univ) fun g (_ : g ∈ Finset.univ) => pieceRes_val m ρ c e g 1 (by decide) (by decide)]
    rw [show wM.view.readAt (Elt F) wR.toLoadRect (k0_pay1 (wstg m ρ c)) = k0_pay1 (wstg m ρ c) from
      Memref.readAt_unit_zero (Elt F) cc0_scratch1 (funext fun a => by fin_cases a <;> rfl) _ _]
    iapply (chunk_split c (xr c e) (chunkV m ρ c (xr c e)))
    iexact Hch
  isplitl [Hsnd]; · iexact Hsnd
  isplitl [Hrcv]; · iexact Hrcv
  isplitl [Hout]; · iexact Hout
  isplitl [HO]; · iexact HO
  isplitl [Hxs]; · iexact Hxs
  iexact Hws

/-! ## A list of operations -/

def AOp.isFin : AOp → Bool
  | .fin _ => true
  | _ => false

theorem op_step (c : Dev nD) (sc : F .f32) (op : Op) (a : AOp) (his : op.is c a = true) (st : St) (hp : a.pre st)
    (hsc : sc = scal m ρ c ∨ a.isFin = false) (Φ : sProp 𝕄) :
    iprop(recs m ρ K ∗ levAts L lv ∗ Inv m ρ c st ∗ (Inv m ρ c (a.post st) -∗ Φ)) ⊢ WP c (op.run sc) fun _ => Φ := by
  cases op <;> cases a <;> simp only [Op.is, Bool.false_eq_true, decide_eq_true_eq] at his
  · exact gemm_step m ρ K c sc _ _ _ _ _ _ his.1 his.2 st hp Φ
  · obtain ⟨rfl, rfl, hn, ho⟩ := his
    exact send_step m ρ K c sc (_, _) _ _ _ _ hn ho st hp Φ
  · obtain ⟨rfl, rfl, ho⟩ := his
    exact wacc_step m ρ K c sc (_, _) _ _ _ ho st hp Φ
  · obtain ⟨rfl, ho⟩ := his
    obtain rfl : sc = scal m ρ c := hsc.resolve_right (by simp [AOp.isFin])
    exact fin_step m ρ K c _ _ _ ho st hp Φ
  · obtain ⟨rfl, rfl, ho⟩ := his
    exact wsend_step m ρ K c sc (_, _) _ _ _ st hp Φ

theorem run_list (c : Dev nD) (sc : F .f32) : ∀ (os : List Op) (l : List AOp) (his : allIs c os l = true)
    (hsc : sc = scal m ρ c ∨ ∀ a ∈ l, a.isFin = false) (st st' : St) (hrun : runSt l st = some st') (Φ : sProp 𝕄),
    iprop(recs m ρ K ∗ levAts L lv ∗ Inv m ρ c st ∗ (Inv m ρ c st' -∗ Φ)) ⊢ WP c (runAll sc os) fun _ => Φ
  | [], [], _, _, st, st', hrun, Φ => by
    obtain rfl : st = st' := Option.some.inj hrun
    simp only [runAll, Prog.pure_eq_ret]
    unfold WP
    iintro ⟨-, -, HI, Hk⟩
    rw [wp_ret]; imodintro
    iapply Hk; iexact HI
  | o :: os, a :: l, his, hsc, st, st', hrun, Φ => by
    simp only [allIs, Bool.and_eq_true] at his
    have hpre : a.pre st := by
      by_contra hn
      rw [runSt, if_neg hn] at hrun
      exact Option.some_ne_none _ hrun.symm
    rw [runSt, if_pos hpre] at hrun
    have ih := run_list c sc os l his.2 (hsc.imp_right fun h a ha => h a (List.mem_cons_of_mem _ ha)) (a.post st) st' hrun Φ
    have h := op_step m ρ K c sc o a his.1 st hpre (hsc.imp_right fun h => h a List.mem_cons_self) (WP c (runAll sc os) fun _ => Φ)
    simp only [runAll]
    unfold WP at h ih ⊢
    rw [wp_bind]
    iintro ⟨#HR, #Hlev, HI, Hk⟩
    iapply h
    isplitr; · iexact HR
    isplitr; · iexact Hlev
    isplitl [HI]; · iexact HI
    iintro HI
    iapply ih
    isplitr; · iexact HR
    isplitr; · iexact Hlev
    isplitl [HI]; · iexact HI
    iexact Hk
  | [], _ :: _, his, _, _, _, _, _ => by simp [allIs] at his
  | _ :: _, [], his, _, _, _, _, _ => by simp [allIs] at his

theorem aops1_noFin : ∀ a ∈ aops1, a.isFin = false := by
  have h : aops1.all (fun a => !a.isFin) = true := by decide
  intro a ha
  have := List.all_eq_true.mp h a ha
  simpa using this

end Cert.KernelIdeal.Run

end

end
-- ==== Proof.Edges.lean ====
/- Around the run: cutting the buffers into slots, pieces and rows, and putting them together again; the
   handshakes' signals; the cells' closing. -/
module

public import proofs.«01_k».proof.Proof.Moves

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The landing buffers -/

/-- A device's six landing buffers. -/
def rcvBufs (c : Dev nD) : sProp 𝕄 :=
  bigSep Finset.univ fun g : Fin 6 => iprop(∃ X, owns (c : Thread nD τ) (rcvM g) fullShare X)

theorem whole_ex (c : Dev nD) (b : Ref sig .tc) :
    (iprop(∃ X, owns (c : Thread nD τ) (Memref.whole b) fullShare X) : sProp 𝕄)
      = iprop(∃ f : Buf (Elt F) ((c : Thread nD τ).loc b), ((c : Thread nD τ).loc b ↦{fullShare} f)) :=
  congrArg BIBase.exists (funext fun f => owns_whole (c : Thread nD τ) b fullShare f)

/-- A device's slots, at any contents. -/
def slotsAny (c : Dev nD) : sProp 𝕄 :=
  bigSep Finset.univ fun gs : GS => iprop(∃ X, slotPts (F := F) c gs X)

/-- A memref at some contents is rectangles that cut it up, each at some contents. -/
theorem rects_any (c : Dev nD) {sp : Space} {s : Shape} {e : EltTy} (m : Memref sig .tc sp s e)
    {T : Type} [Fintype T] [DecidableEq T] (r : T → Rect s) (hr : ∀ t a, (r t).stride a = 1)
    (hd : ∀ t t', t ≠ t' → Disjoint (r t).set (r t').set) (hcov : Finset.univ.biUnion (fun t => (r t).set) = Finset.univ) :
    (iprop(∃ X, owns (c : Thread nD τ) m fullShare X) : sProp 𝕄)
      ⊢ bigSep Finset.univ fun t => iprop(∃ X, owns (c : Thread nD τ) (m.slice (r t) (hr t)) fullShare X) := by
  have h : ∀ X, (owns (c : Thread nD τ) m fullShare X : sProp 𝕄)
      ⊢ bigSep Finset.univ fun t => iprop(∃ X, owns (c : Thread nD τ) (m.slice (r t) (hr t)) fullShare X) := fun X =>
    BIBase.Entails.trans (owns_rects (c : Thread nD τ) m fullShare r hr hd hcov X)
      (bigSep_mono fun t _ => exists_intro (Φ := fun X => owns (c : Thread nD τ) (m.slice (r t) (hr t)) fullShare X) _)
  iintro ⟨%X, H⟩
  iapply (h X) $$ H

theorem rcv_split (c : Dev nD) : rcvBufs (F := F) c ⊢ slotsAny c := by
  unfold rcvBufs slotsAny
  rw [bigSep_univ_prod]
  refine bigSep_mono fun g _ => ?_
  unfold slotPts
  exact rects_any c (rcvM g) (slotR g) (fun _ _ => rfl) (slot_disj g) (slot_cov g)

theorem rcv_join (c : Dev nD) : slotsAny (F := F) c ⊢ rcvBufs c := by
  unfold rcvBufs slotsAny
  rw [bigSep_univ_prod]
  refine bigSep_mono fun g _ => ?_
  unfold slotPts
  exact owns_join c (rcvM g) fullShare (slotR g) (fun _ _ => rfl) (slot_disj g) (slot_cov g)

/-- The slots a device hands over at the barrier, partner by partner. -/
theorem slots_deal (c : Dev nD) :
    slotsAny (F := F) c = iprop(barPay (F := F) (xr c (dir 0)) 0 ∗ barPay (F := F) (xr c (dir 1)) 1 ∗ barPay (F := F) (xr c (dir 2)) 2) := by
  unfold slotsAny barPay
  rw [bigSep_fiberwise Finset.univ peerIx, show (Finset.univ : Finset GS).image peerIx = Finset.univ from by decide,
    bigSep_univ_eq_bigSepL [0, 1, 2] (by decide) (by decide)]
  simp only [xr_xr]
  rfl

/-- The slots the barrier hands to a device, partner by partner. -/
theorem slots_got (c : Dev nD) :
    (bigSep Finset.univ fun d : Fin 3 => barPay (F := F) c d)
      = bigSep Finset.univ fun gs : GS => iprop(∃ Y, slotPts (F := F) (xr c (peer gs)) gs Y) := by
  rw [bigSep_fiberwise (Finset.univ : Finset GS) peerIx, show (Finset.univ : Finset GS).image peerIx = Finset.univ from by decide]
  refine bigSep_congr fun d _ => ?_
  unfold barPay
  refine bigSep_congr fun gs hgs => ?_
  rw [← dir_peerIx, (Finset.mem_filter.mp hgs).2]

/-! ## The accumulator -/

def around (c : Dev nD) : Dev nD ≃ Dev nD :=
  ⟨fun e => xr c e, fun e => xr c e, fun e => by revert c e; decide, fun e => by revert c e; decide⟩

/-- The pieces, chunk by chunk or direction by direction. -/
theorem acc_deal (c : Dev nD) : (bigSep Finset.univ fun t : Dev nD × Fin 6 => iprop(∃ X, piecePts (F := F) c t.1 t.2 X))
    = bigSep Finset.univ fun e : Dev nD => bigSep Finset.univ fun g : Fin 6 => iprop(∃ X, piecePts (F := F) c (xr c e) g X) :=
  (bigSep_univ_prod fun t : Dev nD × Fin 6 => iprop(∃ X, piecePts (F := F) c t.1 t.2 X)).trans
    (bigSep_univ_equiv (around c) fun j => bigSep Finset.univ fun g : Fin 6 => iprop(∃ X, piecePts (F := F) c j g X))

theorem acc_split (c : Dev nD) :
    (iprop(∃ X, owns (c : Thread nD τ) accM fullShare X) : sProp 𝕄) ⊢ accRes m ρ c fun _ _ => 0 := by
  unfold accRes
  rw [bigSep_congr fun e _ => bigSep_congr fun g _ => pieceRes_raw m ρ c e g, ← acc_deal]
  unfold piecePts
  exact rects_any c accM (fun t : Dev nD × Fin 6 => pieceR t.1 t.2) (fun _ _ => rfl) piece_disj piece_cov

theorem pieceRes_any (c e : Dev nD) (g : Fin 6) (v : Fin 5) (h4 : v ≠ 4) :
    pieceRes (F := F) m ρ c e g v ⊢ iprop(∃ X, piecePts (F := F) c (xr c e) g X) := by
  unfold pieceRes
  split_ifs with h0
  · exact BIBase.Entails.rfl
  · iintro H; iexists _; iexact H

theorem acc_join (c : Dev nD) (acc : Dev nD → Fin 6 → Fin 5) (h4 : ∀ e g, acc e g ≠ 4) :
    accRes (F := F) m ρ c acc ⊢ iprop(∃ X, owns (c : Thread nD τ) accM fullShare X) := by
  refine BIBase.Entails.trans (bigSep_mono fun e _ => bigSep_mono fun g _ => pieceRes_any m ρ c e g (acc e g) (h4 e g)) ?_
  rw [← acc_deal]
  unfold piecePts
  exact owns_join c accM fullShare (fun t : Dev nD × Fin 6 => pieceR t.1 t.2) (fun _ _ => rfl) piece_disj piece_cov

/-! ## The result -/

/-- The kernel's result on device `c`: each group's rows. -/
def outAt (c : Dev nD) : (cc0_stg4_0 : Ref sig .tc).ty.Contents (Elt F) :=
  Rect.glue outR out_cov fun g => resV m ρ g c

theorem out_split (c : Dev nD) :
    (iprop(∃ X, owns (c : Thread nD τ) outS fullShare X) : sProp 𝕄) ⊢ bigSep Finset.univ fun g => outRes m ρ c g false := by
  rw [bigSep_congr fun g _ => outRes_no m ρ c g]
  unfold outPts
  exact rects_any c outS outR (fun _ _ => rfl) out_disj out_cov

theorem out_join (c : Dev nD) :
    (bigSep Finset.univ fun g => outRes (F := F) m ρ c g true) ⊢ owns (c : Thread nD τ) outS fullShare (outAt m ρ c) := by
  rw [bigSep_congr fun g _ => outRes_yes m ρ c g]
  unfold outPts
  have h : ∀ g, (fun j => outAt m ρ c ((outR g).emb j)) = resV m ρ g c := fun g =>
    funext fun j => Rect.glue_emb outR out_cov out_disj (fun g => resV m ρ g c) g j
  rw [bigSep_congr fun g _ => congrArg (owns (c : Thread nD τ) (outS.slice (outR g) (fun _ => rfl)) fullShare) (h g).symm]
  exact owns_of_rects (c : Thread nD τ) outS fullShare outR (fun _ _ => rfl) out_disj out_cov (outAt m ρ c)

/-! ## The cells -/

theorem cells_split (Φ : Cell → sProp 𝕄) :
    bigSep Finset.univ Φ = iprop((Φ barK ∗ Φ ackK) ∗ (bigSep Finset.univ fun gs => Φ (sndK gs)) ∗ bigSep Finset.univ fun gs => Φ (rcvK gs)) := by
  rw [bigSep_univ_sum, bigSep_univ_prod, bigSep_univ_eq_bigSepL [false, true] (by decide) (by decide),
    bigSep_univ_eq_bigSepL [false, true] (by decide) (by decide)]
  rfl

theorem cells_close (K : Dev nD × Cell → ℕ) (c : Dev nD) :
    iprop(recs m ρ K ∗ bigSep Finset.univ fun k : Cell => atPos ER (kcell (c, k)) 1 ∅ 0)
      ⊢ |={Set.univ}=> (bigSep Finset.univ fun k : Cell => semVal (kcell (c, k)) 0 : sProp 𝕄) := by
  have h : ∀ k : Cell, iprop(recs m ρ K ∗ atPos ER (kcell (c, k)) 1 ∅ 0) ⊢ |={Set.univ}=> (semVal (kcell (c, k)) 0 : sProp 𝕄) := fun k => by
    iintro ⟨#HR, Hat⟩
    ihave Hr := (recs_at m ρ K (c, k)) $$ HR
    icases Hr with ⟨#HI, -⟩
    iapply (Rounds.cell_close ER (rd m ρ) (Set.mem_univ (K (c, k))) (fun h => h) (R := 1) (duties_later m ρ (kcell (c, k)))) $$ [Hat]
    isplitr; · iexact HI
    iexact Hat
  exact BIBase.Entails.trans (bigSep_with_persistent fun k _ => h k) (bigSep_fupd _ _)

/-! ## The handshakes -/

theorem Ohand_three (b : Bool) (c : Dev nD) : Ohand b c Finset.univ
    = tallyAt (kcell (xr c (dir 2), .inl b)) () 1 + tallyAt (kcell (xr c (dir 1), .inl b)) () 1 + tallyAt (kcell (xr c (dir 0), .inl b)) () 1 := by
  unfold Ohand; rw [Fin.sum_univ_three, add_comm (_ + _), add_comm (tallyAt (kcell (xr c (dir 0), _)) () 1), add_assoc]

variable (K : Dev nD × Cell → ℕ)

theorem signal_hand (c n : Dev nD) (b : Bool) (d : Fin 3) (hn : n = xr c (dir d)) (s : Sem sig) (hs : csem (.inl b) = .reg s)
    (z : ℤ) (hz : z = 1) (O : CellTallies nD τ sig Unit)
    {α : Type} {k : PUnit → Prog (TpuEff nD τ sig (Elt F) Λ₀ .tc) α} {Q : α → sProp 𝕄} :
    iprop(recs m ρ K ∗ (∃ W, owes (c : Thread nD τ) (O + tallyAt (kcell (xr c (dir d), .inl b)) () 1) W)
        ∗ dutyTok ER (kcell (xr c (dir d), .inl b)) 0 d ∗ pay m ρ (xr c (dir d)) d (.inl b)
        ∗ ((∃ W, owes (c : Thread nD τ) O W) -∗ WP c (k ⟨⟩) Q))
      ⊢ WP c (.op (.semSignal (n : Thread nD τ) s z) k) Q := by
  subst hn hz
  iintro ⟨#HR, ⟨%W, HO⟩, Ht, Hp, Hk⟩
  ihave Hr := (recs_at m ρ K (xr c (dir d), .inl b)) $$ HR
  icases Hr with ⟨#HI, #Hre⟩
  have e : kcell (xr c (dir d), .inl b) = ((xr c (dir d) : Thread nD τ), .reg s) := by unfold kcell; rw [hs]
  iapply (Rounds.wp_signal 𝒱₀ ER (rd m ρ) (c : Thread nD τ) none (dst := (xr c (dir d) : Thread nD τ)) (κ := K (xr c (dir d), .inl b)) (r := 0) (d := d)
      (by rw [← e, duties_at]; exact Finset.mem_univ _) (by rw [← e, amount_at]; rfl) () O (O₀ := O + tallyAt (kcell (xr c (dir d), .inl b)) () 1) (by rw [e])) $$ [HO Ht Hp]
  · rw [← e]
    isplitr; · iexact HI
    isplitl [HO]; · iexact HO
    isplitl [Ht]; · iexact Ht
    isplitl [Hp]; · rw [payload_at]; iexact Hp
    iexact Hre
  iintro HO
  iapply Hk
  iexists _; iexact HO

theorem wait_hand (c : Dev nD) (b : Bool) (s : Sem sig) (hs : csem (.inl b) = .reg s) (z : ℤ) (hz : z = 3) (O : CellTallies nD τ sig Unit)
    (hO : (levAts L lv : sProp 𝕄) ⊢ MayWait (c : Thread nD τ) (csem (.inl b)) () O)
    {α : Type} {k : PUnit → Prog (TpuEff nD τ sig (Elt F) Λ₀ .tc) α} {Q : α → sProp 𝕄} :
    iprop(recs m ρ K ∗ levAts L lv ∗ cred (tallyAt (kcell (c, .inl b)) () 3) ∗ atPos ER (kcell (c, .inl b)) 0 ∅ 0
        ∗ (∃ W, owes (c : Thread nD τ) O W)
        ∗ ((atPos ER (kcell (c, .inl b)) 1 ∅ 0 ∗ (∃ W, owes (c : Thread nD τ) O W)
            ∗ bigSep Finset.univ fun d : Fin 3 => pay m ρ c d (.inl b)) -∗ WP c (k ⟨⟩) Q))
      ⊢ WP c (.op (.semWait s z) k) Q := by
  subst hz
  iintro ⟨#HR, #Hlev, Hc, Hat, ⟨%W, HO⟩, Hk⟩
  ihave Hr := (recs_at m ρ K (c, .inl b)) $$ HR
  icases Hr with ⟨#HI, -⟩
  iapply (Rounds.wp_wait_rest_token 𝒱₀ ER (rd m ρ) (c : Thread nD τ) none (κ := K (c, .inl b)) (sm := csem (.inl b)) (k' := 3)
      (fun Kt => by rw [hs]; exact wpE_semWait_eq 𝒱₀ (c : Thread nD τ) none Set.univ Kt) (Set.mem_univ _) ()
      (O := O) (W := W) (R := 0) (m := 0) (T := ∅) (by rw [Nat.zero_add]; exact (expect_hand m ρ c b).symm)) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_hand m ρ c b)) $$ Hpay
  iapply Hk
  isplitl [Hat]; · iexact Hat
  isplitl [HO]; · iexists _; iexact HO
  iexact Hp

end Cert.KernelIdeal.Run

end

end
-- ==== Proof.BodyEq.lean ====
/- The printed body is the list's run: the kernel unfolds both sides. -/
module

public import proofs.«01_k».proof.Proof.Ops

@[expose] public section

namespace Cert.KernelIdeal.Run

open Idealize.ShloMosaic Idealize.SL.Sem
open Cert.KernelIdeal Cert.KernelIdeal.Gen

variable {F : FTy → Type} [FloatOps F]

set_option maxRecDepth 100000 in
/-- The printed body, as the list's run. -/
theorem body_eq : bodyAt0 (F := F) t0_0 = bodyL := by
  chain_rfl

end Cert.KernelIdeal.Run

end
-- ==== Proof.Body.lean ====
/- The body's triple: both handshakes around the two lists' run. -/
module

public import proofs.«01_k».proof.Proof.Edges
public import proofs.«01_k».proof.Proof.BodyEq
public import proofs.«01_k».proof.Proof.Gen.KernelIdeal.Launch

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Into the run, and out of it -/

theorem inv_intro (c : Dev nD) :
    iprop(accRes m ρ c (fun _ _ => 0)
      ∗ (bigSep Finset.univ fun gs : GS => dutyTok ER (kcell (c, sndK gs)) 0 0)
      ∗ (bigSep Finset.univ fun gs : GS => dutyTok ER (kcell (xr c (peer gs), rcvK gs)) 0 0)
      ∗ (bigSep Finset.univ fun gs : GS => atPos ER (kcell (c, sndK gs)) 0 ∅ 0)
      ∗ (bigSep Finset.univ fun gs : GS => atPos ER (kcell (c, rcvK gs)) 0 ∅ 0)
      ∗ (bigSep Finset.univ fun gs : GS => iprop(∃ Y, slotPts (F := F) (xr c (peer gs)) gs Y))
      ∗ (bigSep Finset.univ fun gs : GS => cred (tallyAt (kcell (c, rcvK gs)) () (crd gs.1)))
      ∗ (bigSep Finset.univ fun g => outRes m ρ c g false)
      ∗ (∃ W, owes (c : Thread nD τ) (Orun c Finset.univ) W) ∗ staged m ρ c)
    ⊢ Inv m ρ c st₀ := by
  unfold Inv
  rw [show (bigSep Finset.univ fun gs => sndRes (F := F) c gs (st₀.snd gs)) = _ from bigSep_congr fun gs _ => sndRes_unsent c gs,
    show (bigSep Finset.univ fun gs => rcvRes (F := F) c gs (st₀.rcv gs)) = _ from bigSep_congr fun gs _ => rcvRes_no c gs,
    bigSep_sep', bigSep_sep', bigSep_sep', bigSep_sep', show st₀.unsent = Finset.univ from by decide]
  iintro ⟨Hacc, Ht1, Ht2, Ha1, Ha2, Hs, Hc, Hout, HO, Hst⟩
  isplitl [Hacc]; · iexact Hacc
  isplitl [Ht1 Ht2 Ha1 Hs]
  · isplitl [Ht1]; · iexact Ht1
    isplitl [Ht2]; · iexact Ht2
    isplitl [Ha1]; · iexact Ha1
    iexact Hs
  isplitl [Hc Ha2]
  · isplitl [Hc]; · iexact Hc
    iexact Ha2
  isplitl [Hout]; · iexact Hout
  isplitl [HO]; · iexact HO
  iexact Hst

theorem done_all {st : St} (h : st.done) :
    (∀ e g, st.acc e g ≠ 4) ∧ (∀ gs, st.snd gs = 2) ∧ (∀ gs, st.rcv gs = true) ∧ (∀ g, st.out g = true) ∧ st.unsent = ∅ := by
  obtain ⟨h1, h2, h3, h4⟩ := h
  refine ⟨h1, h2, h3, h4, ?_⟩
  ext gs; simp [St.unsent, h2 gs]

theorem inv_elim (c : Dev nD) (st : St) (h : st.done) :
    Inv (F := F) m ρ c st ⊢ iprop((∃ X, owns (c : Thread nD τ) accM fullShare X)
      ∗ (bigSep Finset.univ fun gs : GS => atPos ER (kcell (c, sndK gs)) 1 ∅ 0)
      ∗ (bigSep Finset.univ fun gs : GS => atPos ER (kcell (c, rcvK gs)) 1 ∅ 0)
      ∗ slotsAny c ∗ owns (c : Thread nD τ) outS fullShare (outAt m ρ c)
      ∗ (∃ W, owes (c : Thread nD τ) (Ohand true c Finset.univ) W) ∗ staged m ρ c) := by
  obtain ⟨h1, h2, h3, h4, h5⟩ := done_all h
  unfold Inv
  rw [show (bigSep Finset.univ fun gs => sndRes (F := F) c gs (st.snd gs)) = _ from bigSep_congr fun gs _ => by rw [h2 gs, sndRes_back],
    show (bigSep Finset.univ fun gs => rcvRes (F := F) c gs (st.rcv gs)) = _ from bigSep_congr fun gs _ => by rw [h3 gs, rcvRes_yes],
    show (bigSep Finset.univ fun g => outRes m ρ c g (st.out g)) = _ from bigSep_congr fun g _ => by rw [h4 g],
    bigSep_sep', h5, show Orun c ∅ = Ohand true c Finset.univ from by unfold Orun Osend; rw [Finset.sum_empty, zero_add]]
  iintro ⟨Hacc, Ha1, ⟨Ha2, Hs⟩, Hout, HO, Hst⟩
  isplitl [Hacc]; · iapply (acc_join m ρ c st.acc h1); iexact Hacc
  isplitl [Ha1]; · iexact Ha1
  isplitl [Ha2]; · iexact Ha2
  isplitl [Hs]; · unfold slotsAny; iexact Hs
  isplitl [Hout]; · iapply (out_join m ρ c); iexact Hout
  isplitl [HO]; · iexact HO
  iexact Hst

/-! ## The ghost state a device starts from -/

def payToks (c : Dev nD) : sProp 𝕄 :=
  iprop((bigSep Finset.univ fun gs : GS => dutyTok ER (kcell (c, sndK gs)) 0 0)
    ∗ (bigSep Finset.univ fun gs : GS => dutyTok ER (kcell (xr c (peer gs), rcvK gs)) 0 0)
    ∗ (bigSep Finset.univ fun d : Fin 3 => dutyTok ER (kcell (xr c (dir d), barK)) 0 d)
    ∗ (bigSep Finset.univ fun d : Fin 3 => dutyTok ER (kcell (xr c (dir d), ackK)) 0 d))

/-- The positions at round `r` of a device's cells. -/
def posAt (c : Dev nD) (r : ℕ) : sProp 𝕄 := bigSep Finset.univ fun k : Cell => atPos ER (kcell (c, k)) r ∅ 0

def linear (c : Dev nD) : sProp 𝕄 := iprop(posAt c 0 ∗ payToks c)

def credsOf (c : Dev nD) : sProp 𝕄 :=
  iprop(cred (tallyAt (kcell (c, barK)) () 3) ∗ cred (tallyAt (kcell (c, ackK)) () 3)
    ∗ bigSep Finset.univ fun gs : GS => cred (tallyAt (kcell (c, rcvK gs)) () (crd gs.1)))

def start (c : Dev nD) : sProp 𝕄 :=
  iprop((∃ K, recs m ρ K ∗ linear (F := F) c) ∗ credsOf c ∗ levAts L lv)

/-- The scratch buffers, at any contents. -/
def scratch (c : Dev nD) : sProp 𝕄 :=
  iprop((∃ X, owns (c : Thread nD τ) accM fullShare X) ∗ (∃ X, owns (c : Thread nD τ) wM fullShare X) ∗ rcvBufs (F := F) c)

def Φ₀ (c : Dev nD) : sProp 𝕄 := iprop(start m ρ c ∗ scratch c)
def Φ₁ (c : Dev nD) : sProp 𝕄 := iprop(scratch (F := F) c ∗ bigSep Finset.univ fun k : Cell => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

theorem dev_bar (c : Dev nD) : (⟨k0_dev1 c, k0_dev1_lt c⟩ : Dev nD) = xr c (dir 0) ∧ (⟨k0_dev2 c, k0_dev2_lt c⟩ : Dev nD) = xr c (dir 1)
    ∧ (⟨k0_dev3 c, k0_dev3_lt c⟩ : Dev nD) = xr c (dir 2) := by revert c; decide +kernel
theorem dev_ack (c : Dev nD) : (⟨k0_dev46 c, k0_dev46_lt c⟩ : Dev nD) = xr c (dir 0) ∧ (⟨k0_dev47 c, k0_dev47_lt c⟩ : Dev nD) = xr c (dir 1)
    ∧ (⟨k0_dev48 c, k0_dev48_lt c⟩ : Dev nD) = xr c (dir 2) := by revert c; decide +kernel

theorem hzw : (![0, 0] : Fin 2 → ℕ) = fun _ => 0 := by decide

theorem wS_load (c : Dev nD) : wS.view.readAt (Elt F) wR.toLoadRect (wstg m ρ c) = wstg m ρ c :=
  Memref.readAt_unit_zero (Elt F) cc0_stg1_0 hzw _ (wstg m ρ c)
theorem wM_store (f : (cc0_scratch1 : Ref sig .tc).ty.Contents (Elt F)) (w : S512x2048.Idx → Elt F .fp8e4m3) :
    (wM.access wR).write (Elt F) f w Finset.univ = w :=
  Memref.write_access_unit_zero_univ (Elt F) cc0_scratch1 hzw _ f w

theorem bar_may (c : Dev nD) : (levAts L lv : sProp 𝕄) ⊢ MayWait (c : Thread nD τ) (csem barK) () (Orun c Finset.univ) :=
  mayWait_run c barK Finset.univ (by decide) fun gs _ => by
    have := (lev_facts gs.2).2.2
    show 1 < _; omega

/-- A buffer held at `X`. -/
abbrev at_ (c : Dev nD) (b : Ref sig .tc) (X : b.ty.Contents (Elt F)) : sProp 𝕄 := ((c : Thread nD τ).loc b ↦{fullShare} X)

variable (K : Dev nD × Cell → ℕ)

theorem bigSep_three (Φ : Fin 3 → sProp 𝕄) : bigSep Finset.univ Φ = iprop(Φ 0 ∗ Φ 1 ∗ Φ 2) := by
  rw [bigSep_univ_eq_bigSepL [0, 1, 2] (by decide) (by decide)]; rfl

/-- The three signals of a handshake. -/
theorem signals (c n0 n1 n2 : Dev nD) (b : Bool) (hn : n0 = xr c (dir 0) ∧ n1 = xr c (dir 1) ∧ n2 = xr c (dir 2)) (s : Sem sig) (hs : csem (.inl b) = .reg s)
    (z : ℤ) (hz : z = 1) (O : CellTallies nD τ sig Unit) {α : Type} {p : Prog (TpuEff nD τ sig (Elt F) Λ₀ .tc) α} {Q : α → sProp 𝕄} :
    iprop(recs m ρ K ∗ (∃ W, owes (c : Thread nD τ) (O + Ohand b c Finset.univ) W)
        ∗ (bigSep Finset.univ fun d : Fin 3 => dutyTok ER (kcell (xr c (dir d), .inl b)) 0 d)
        ∗ (pay m ρ (xr c (dir 0)) 0 (.inl b) ∗ pay m ρ (xr c (dir 1)) 1 (.inl b) ∗ pay m ρ (xr c (dir 2)) 2 (.inl b))
        ∗ ((∃ W, owes (c : Thread nD τ) O W) -∗ WP c p Q))
      ⊢ WP c (.op (.semSignal (n0 : Thread nD τ) s z) fun _ => .op (.semSignal (n1 : Thread nD τ) s z) fun _ => .op (.semSignal (n2 : Thread nD τ) s z) fun _ => p) Q := by
  rw [Ohand_three, ← add_assoc, ← add_assoc,
    bigSep_three fun d : Fin 3 => dutyTok ER (kcell (xr c (dir d), .inl b)) 0 d]
  iintro ⟨#HR, HO, ⟨Ht0, Ht1, Ht2⟩, ⟨Hp0, Hp1, Hp2⟩, Hk⟩
  iapply (signal_hand m ρ K c n0 b 0 hn.1 s hs z hz)
  isplitr; · iexact HR
  isplitl [HO]; · iexact HO
  isplitl [Ht0]; · iexact Ht0
  isplitl [Hp0]; · iexact Hp0
  iintro HO
  iapply (signal_hand m ρ K c n1 b 1 hn.2.1 s hs z hz)
  isplitr; · iexact HR
  isplitl [HO]; · iexact HO
  isplitl [Ht1]; · iexact Ht1
  isplitl [Hp1]; · iexact Hp1
  iintro HO
  iapply (signal_hand m ρ K c n2 b 2 hn.2.2 s hs z hz)
  isplitr; · iexact HR
  isplitl [HO]; · iexact HO
  isplitl [Ht2]; · iexact Ht2
  isplitl [Hp2]; · iexact Hp2
  iexact Hk

theorem sound_body (c : Dev nD) (Kt : PUnit → sProp 𝕄) :
    iprop(recs m ρ K ∗ linear (F := F) c ∗ credsOf c ∗ levAts L lv ∗ scratch c
      ∗ (∃ W, owes (c : Thread nD τ) (O₀ c) W) ∗ at_ c cc0_stg0_0 (xstg m ρ c) ∗ at_ c cc0_stg1_0 (wstg m ρ c)
      ∗ at_ c cc0_stg2_0 (sxstg m ρ c) ∗ at_ c cc0_stg3_0 (swstg m ρ c) ∗ (∃ X, owns (c : Thread nD τ) outS fullShare X)
      ∗ ((Φ₁ c ∗ (∃ W, owes (c : Thread nD τ) 0 W) ∗ at_ c cc0_stg0_0 (xstg m ρ c) ∗ at_ c cc0_stg1_0 (wstg m ρ c)
      ∗ at_ c cc0_stg2_0 (sxstg m ρ c) ∗ at_ c cc0_stg3_0 (swstg m ρ c) ∗ owns (c : Thread nD τ) outS fullShare (outAt m ρ c)) -∗ Kt ⟨⟩))
      ⊢ WP c bodyL Kt := by
  obtain ⟨st1, st2, h1, h2, hd⟩ : ∃ st1 st2, runSt aops1 st₀ = some st1 ∧ runSt aops2 st1 = some st2 ∧ st2.done := by
    have h := run_done
    rcases h1 : runSt aops1 st₀ with _ | st1
    · rw [h1] at h; exact absurd h (by decide)
    rcases h2 : runSt aops2 st1 with _ | st2
    · rw [h1] at h; simp only [Option.bind_some, h2] at h; exact absurd h (by decide)
    rw [h1] at h; simp only [Option.bind_some, h2, Option.any_some, decide_eq_true_eq] at h
    exact ⟨st1, st2, rfl, h2, h⟩
  unfold bodyL WP
  simp only [semSignalWord, semWaitWord, Prog.lift, Prog.bind_op, Prog.bind_ret, Prog.pure_eq_ret, wp_deviceId]
  unfold linear posAt payToks credsOf scratch
  iintro ⟨#HR, ⟨Hat, HtS, HtV, HtB, HtA⟩, ⟨HcB, HcA, HcV⟩, #Hlev, ⟨Hacc, Hwm, Hrcv⟩, HO, Hx, Hws, Hsx, Hsw, Hout, Hk⟩
  ihave Hat' := (Entails.of_eq (cells_split (F := F) fun k => atPos ER (kcell (c, k)) 0 ∅ 0)) $$ Hat
  icases Hat' with ⟨⟨HaB, HaA⟩, HaS, HaV⟩
  ihave Hwm' := (Entails.of_eq (whole_ex (F := F) c cc0_scratch1)) $$ Hwm
  icases Hwm' with ⟨%fw, Hw⟩
  -- entry handshake
  ihave Hsl := (rcv_split (F := F) c) $$ Hrcv
  ihave Hdl := (Entails.of_eq (slots_deal (F := F) c)) $$ Hsl
  iapply (signals m ρ K c _ _ _ false (dev_bar c) barSem rfl _ (by decide) (Orun c Finset.univ))
  isplitr; · iexact HR
  isplitl [HO]; · iexact HO
  isplitl [HtB]; · iexact HtB
  isplitl [Hdl]; · iexact Hdl
  iintro HO
  iapply (wait_hand m ρ K c false barSem rfl _ (by decide) (Orun c Finset.univ) (bar_may c))
  isplitr; · iexact HR
  isplitr; · iexact Hlev
  isplitl [HcB]; · iexact HcB
  isplitl [HaB]; · iexact HaB
  isplitl [HO]; · iexact HO
  iintro ⟨HaB, HO, Hgot⟩
  ihave Hpar := (Entails.of_eq (show (bigSep Finset.univ fun d : Fin 3 => pay m ρ c d barK) = _ from slots_got (F := F) c)) $$ Hgot
  -- the weights' copy
  iapply (wp_load 𝒱₀ (c : Thread nD τ) none Set.univ (m := wS) (Finset.subset_univ _)) $$ Hws; iintro Hws
  iapply (wp_load 𝒱₀ (c : Thread nD τ) none Set.univ (m := wM) (Finset.subset_univ _)) $$ Hw; iintro Hw
  iapply (wp_store 𝒱₀ (c : Thread nD τ) none Set.univ (m := wM) (r := wR) (Mk := Finset.univ) (Finset.subset_univ _)) $$ Hw; iintro Hw
  ihave Hw' := (Entails.of_eq (congrArg (at_ c cc0_scratch1) ((wM_store fw _).trans (congrArg k0_pay1 (wS_load m ρ c))))) $$ Hw
  -- the first list
  rw [wp_bind]
  iapply (run_list m ρ K c _ (ops1 c) aops1 (ops1_is c) (Or.inr aops1_noFin) st₀ st1 h1)
  isplitr; · iexact HR
  isplitr; · iexact Hlev
  isplitl [Hacc HtS HtV HaS HaV Hpar HcV Hout HO Hx Hw']
  · iapply (inv_intro m ρ c)
    isplitl [Hacc]; · iapply (acc_split m ρ c); iexact Hacc
    isplitl [HtS]; · iexact HtS
    isplitl [HtV]; · iexact HtV
    isplitl [HaS]; · iexact HaS
    isplitl [HaV]; · iexact HaV
    isplitl [Hpar]; · iexact Hpar
    isplitl [HcV]; · iexact HcV
    isplitl [Hout]; · iapply (out_split m ρ c); iexact Hout
    isplitl [HO]; · iexact HO
    unfold staged
    isplitl [Hx]; · iexact Hx
    iexact Hw'
  iintro HI
  -- the scales
  rw [wp_bind]
  iapply (wp_smemLoadElt 𝒱₀ (c : Thread nD τ) none Set.univ (m := sxS) (r := scR) (Finset.subset_univ _)) $$ Hsx; iintro Hsx
  rw [wp_ret]; imodintro
  rw [wp_bind]
  iapply (wp_smemLoadElt 𝒱₀ (c : Thread nD τ) none Set.univ (m := swS) (r := scR) (Finset.subset_univ _)) $$ Hsw; iintro Hsw
  rw [wp_ret]; imodintro
  -- the second list
  rw [wp_bind]
  iapply (run_list m ρ K c _ (ops2 c) aops2 (ops2_is c) (Or.inl rfl) st1 st2 h2)
  isplitr; · iexact HR
  isplitr; · iexact Hlev
  isplitl [HI]; · iexact HI
  iintro HI
  ihave HI' := (inv_elim m ρ c st2 hd) $$ HI
  unfold staged
  icases HI' with ⟨Hacc, HaS, HaV, Hsl, Hout, HO, Hx, Hw⟩
  -- closing handshake
  iapply (signals m ρ K c _ _ _ true (dev_ack c) ackSem rfl _ (by decide) 0)
  isplitr; · iexact HR
  isplitl [HO]; · rw [zero_add]; iexact HO
  isplitl [HtA]; · iexact HtA
  isplitr
  · unfold pay
    isplitr; · iempintro
    isplitr <;> iempintro
  iintro HO
  iapply (wait_hand m ρ K c true ackSem rfl _ (by decide) 0 (by rw [MayWait_zero]; iintro -; iempintro))
  isplitr; · iexact HR
  isplitr; · iexact Hlev
  isplitl [HcA]; · iexact HcA
  isplitl [HaA]; · iexact HaA
  isplitl [HO]; · iexact HO
  iintro ⟨HaA, HO, -⟩
  imod (cells_close m ρ K c) $$ [HaB HaA HaS HaV] with Hz
  · isplitr; · iexact HR
    rw [cells_split]
    isplitl [HaB HaA]
    · isplitl [HaB] <;> iassumption
    isplitl [HaS] <;> iassumption
  rw [wp_ret]; imodintro
  iapply Hk
  isplitl [Hacc Hw Hsl Hz]
  · unfold Φ₁ scratch
    isplitr [Hz]
    · isplitl [Hacc]; · iexact Hacc
      isplitl [Hw]
      · ihave H := (Entails.of_eq (whole_ex (F := F) c cc0_scratch1).symm) $$ [Hw]
        · iexists _; iexact Hw
        iexact H
      iapply (rcv_join (F := F) c); iexact Hsl
    · iexact Hz
  isplitl [HO]; · iexact HO
  isplitl [Hx]; · iexact Hx
  isplitl [Hws]; · iexact Hws
  isplitl [Hsx]; · iexact Hsx
  isplitl [Hsw]; · iexact Hsw
  iexact Hout

/-! ## The obligation -/

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

theorem stg_out (c : Dev nD) (X : (cc0_stg4_0 : Ref sig .tc).ty.Contents (Elt F)) :
    (stg c cc0_stg4_0 X : sProp 𝕄) = owns (c : Thread nD τ) outS fullShare X := (owns_whole_eq c cc0_stg4_0 X).symm

set_option maxRecDepth 100000 in
/-- A body's run from its windows to its windows. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (bodyAt0 t0_0) (fun _ => bodyPost m ρ c)
  rw [body_eq]
  unfold bodyPre Φ₀ start
  iintro ⟨⟨⟨⟨%K, #HR, Hl⟩, Hc, #Hlev⟩, Hscr⟩, Ho, ⟨%d0, %g0, %hg0, Hx⟩, ⟨%d1, %g1, %hg1, Hw⟩, ⟨%d2, %g2, %hg2, Hsx⟩, ⟨%d3, %g3, %hg3, Hsw⟩, ⟨%d4, Hout⟩⟩
  have hx0 : g0 = xstg m ρ c := by rw [hg0]; unfold Dat.before; rw [if_pos (fetch0_0 t0_0)]; rfl
  have hx1 : g1 = wstg m ρ c := by rw [hg1]; unfold Dat.before; rw [if_pos (fetch0_1 t0_0)]; rfl
  have hx2 : g2 = sxstg m ρ c := by rw [hg2]; unfold Dat.before; rw [if_pos (fetch0_2 t0_0)]; rfl
  have hx3 : g3 = swstg m ρ c := by rw [hg3]; unfold Dat.before; rw [if_pos (fetch0_3 t0_0)]; rfl
  subst hx0 hx1 hx2 hx3
  unfold Dat.owesAt Pipeline.owesWithin
  icases Ho with ⟨%W, %hW, HO⟩
  iapply (sound_body m ρ K c fun _ => bodyPost m ρ c)
  isplitr; · iexact HR
  isplitl [Hl]; · iexact Hl
  isplitl [Hc]; · iexact Hc
  isplitr; · iexact Hlev
  isplitl [Hscr]; · iexact Hscr
  isplitl [HO]; · iexists W; iexact HO
  isplitl [Hx]; · iexact Hx
  isplitl [Hw]; · iexact Hw
  isplitl [Hsx]; · iexact Hsx
  isplitl [Hsw]; · iexact Hsw
  isplitl [Hout]
  · iexists ((dats m ρ 0 c).before (4 : Fin 5) t0_0 d4)
    ihave H := (Entails.of_eq (stg_out (F := F) c ((dats m ρ 0 c).before (4 : Fin 5) t0_0 d4))) $$ Hout
    iexact H
  iintro ⟨HΦ, ⟨%W', HO⟩, Hx, Hw, Hsx, Hsw, Hout⟩
  unfold bodyPost Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  ihave H := (Entails.of_eq (stg_out (F := F) c (outAt m ρ c)).symm) $$ Hout
  iexact H

end Cert.KernelIdeal.Run

end

end
-- ==== Proof.Launch.lean ====
/- The launch: what the devices start from, dealt out of the initial ghost state, and the run of the whole module. -/
module

public import proofs.«01_k».proof.Proof.Body
public import Idealize.ShloMosaic.Lib.Pipeline.CollectiveSegs

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The kernel's own semaphores: every cell but the barrier. -/
abbrev OwnIx := Unit ⊕ (Bool × GS)
abbrev osem : OwnIx → SemLoc sig
  | .inl _ => csem ackK
  | .inr x => csem (.inr x)

theorem ownSemFacts : Pipeline.OwnSemFacts cfg0.spec osem where
  isScoped := by decide +kernel
  inj := by
    rintro (⟨⟩ | x) (⟨⟩ | y) h
    · rfl
    · have := (dec_csem ackK).symm.trans ((congrArg dec h).trans (dec_csem (.inr y))); cases this
    · have := (dec_csem (.inr x)).symm.trans ((congrArg dec h).trans (dec_csem ackK)); cases this
    · have := (dec_csem (.inr x)).symm.trans ((congrArg dec h).trans (dec_csem (.inr y))); cases this; rfl
  disj := by decide +kernel

theorem share_eq (c : Dev nD) (w : Fin cfg0.W) : (dats (F := F) m ρ 0 c).share w = fullShare := by unfold Dat.share; split <;> rfl

theorem unscopedSems0_eq (c : Dev nD) : (unscopedSems0 c : sProp 𝕄) = semVal (kcell (c, barK)) 0 := by
  unfold unscopedSems0; rw [bigSep_eq_bigSepL_of_eq [SemLoc.reg barSem] (by decide +kernel) (by decide +kernel)]; rfl

theorem ownSems0_eq (c : Dev nD) : (Pipeline.ownSems0 (Ix := Unit) (Name := ℕ) (U := UU) (Lvl := ℕ) (Val := Elt F) (τ := τ) osem c : sProp 𝕄)
    = iprop(semVal (kcell (c, ackK)) 0 ∗ bigSep Finset.univ fun x : Bool × GS => semVal (kcell (c, .inr x)) 0) := by
  unfold Pipeline.ownSems0
  rw [bigSep_univ_sum, bigSep_univ_eq_bigSepL [()] (by decide) (by decide)]; rfl

theorem semVals_eq (c : Dev nD) : (bigSep Finset.univ fun k : Cell => semVal (kcell (c, k)) 0 : sProp 𝕄)
    = iprop((semVal (kcell (c, barK)) 0 ∗ semVal (kcell (c, ackK)) 0) ∗ bigSep Finset.univ fun x : Bool × GS => semVal (kcell (c, .inr x)) 0) := by
  rw [bigSep_univ_sum, bigSep_univ_eq_bigSepL [false, true] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, semVals_eq]
  iintro ⟨⟨HA, HX⟩, HB⟩
  isplitr [HX]
  · isplitl [HB]; · iexact HB
    iexact HA
  iexact HX

theorem sems0_back (c : Dev nD) :
    (bigSep Finset.univ fun k : Cell => semVal (kcell (c, k)) 0 : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, semVals_eq]
  iintro ⟨⟨HB, HA⟩, HX⟩
  isplitl [HB]; · iexact HB
  isplitl [HA]; · iexact HA
  iexact HX

/-! ## The ghost state at launch -/

def ringCells : Finset (GSem nD τ sig) := Finset.univ.map ⟨kcell, kcell_injective⟩

/-- The duties of a device's cells. -/
abbrev TokIx := (Bool × Fin 3) ⊕ (Bool × GS)
abbrev tokCell : TokIx → Cell × Fin 3
  | .inl (b, d) => (.inl b, d)
  | .inr x => (.inr x, 0)
abbrev tokOf (ci : Dev nD × TokIx) : GSem nD τ sig × ℕ × Fin 3 := (kcell (ci.1, (tokCell ci.2).1), 0, (tokCell ci.2).2)

theorem tokOf_injective : Function.Injective tokOf := by
  rintro ⟨c, i⟩ ⟨c', i'⟩ h
  have h1 := kcell_injective (congrArg Prod.fst h)
  have h2 : (tokCell i).2 = (tokCell i').2 := congrArg (fun x : GSem nD τ sig × ℕ × Fin 3 => x.2.2) h
  have h3 : c = c' := congrArg Prod.fst h1
  have h4 : (tokCell i).1 = (tokCell i').1 := congrArg Prod.snd h1
  subst h3
  rcases i with ⟨b, d⟩ | x <;> rcases i' with ⟨b', d'⟩ | x'
  · cases h4; cases h2; rfl
  · cases h4
  · cases h4
  · cases h4; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The token of a duty of device `c`'s. -/
def tok (c : Dev nD) (i : TokIx) : sProp 𝕄 := dutyTok ER (kcell (c, (tokCell i).1)) 0 (tokCell i).2

def G (c : Dev nD) : sProp 𝕄 :=
  iprop((bigSep Finset.univ fun k : Cell => roundState ER (rd m ρ) (kcell (c, k)) 0)
    ∗ (posAt c 0 ∗ bigSep Finset.univ fun k : Cell => reached ER (kcell (c, k)) 0) ∗ bigSep Finset.univ (tok (F := F) c))

def G' (c : Dev nD) : sProp 𝕄 := iprop(∃ K, recs m ρ K ∗ linear (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ (tok (F := F) c) := by
    unfold ringToks; rw [bigSep_map, bigSep_univ_prod]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt; simp only [bigSep_sep']
  isplitl [Hst']; · iexact Hst'
  isplitl [Hat' Hr']
  · isplitl [Hat'] <;> iassumption
  iexact Htok'

/-- A cell's opening. -/
theorem cell_open (g : GSem nD τ sig) : iprop(semVal g 0 ∗ roundState ER (rd m ρ) g 0)
    ⊢ |={Set.univ}=> (iprop(∃ κ : ℕ, cellInv ER (rd (F := F) m ρ) κ g) : sProp 𝕄) :=
  (Rounds.body_intro ER (rd m ρ) g).trans inv_alloc

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (rd m ρ) κ (kcell (c, k))))
          ∗ (bigSep Finset.univ fun k : Cell => reached ER (kcell (c, k)) 0) ∗ posAt c 0 ∗ bigSep Finset.univ (tok c)) := by
  have h : iprop((bigSep Finset.univ fun k : Cell => semVal (kcell (c, k)) 0) ∗ bigSep Finset.univ fun k : Cell => roundState ER (rd m ρ) (kcell (c, k)) 0)
      ⊢ (|={Set.univ}=> bigSep Finset.univ fun k : Cell => iprop(∃ κ : ℕ, cellInv ER (rd m ρ) κ (kcell (c, k))) : sProp 𝕄) := by
    rw [← bigSep_sep']
    exact BIBase.Entails.trans (bigSep_mono fun k _ => cell_open m ρ (kcell (c, k))) (bigSep_fupd _ _)
  unfold G
  iintro ⟨Hos, Hus, Hst, ⟨Hat, Hr⟩, Htok⟩
  ihave Hv := (sems0_eq (F := F) c) $$ [Hos Hus]
  · isplitl [Hos] <;> iassumption
  imod h $$ [Hv Hst] with Hinv
  · isplitl [Hv] <;> iassumption
  imodintro
  isplitl [Hinv]; · iexact Hinv
  isplitl [Hr]; · iexact Hr
  isplitl [Hat]; · iexact Hat
  iexact Htok

/-- Every device across its own direction, for a family of directions. -/
def hop {I : Type} (f : I → Dev nD) : Dev nD × I ≃ Dev nD × I :=
  ⟨fun p => (xr p.1 (f p.2), p.2), fun p => (xr p.1 (f p.2), p.2), fun p => Prod.ext (xr_xr p.1 (f p.2)) rfl, fun p => Prod.ext (xr_xr p.1 (f p.2)) rfl⟩

theorem deal_hop {I : Type} [Fintype I] (f : I → Dev nD) (Φ : Dev nD → I → sProp 𝕄) :
    (bigSep Finset.univ fun c => bigSep Finset.univ (Φ c)) = bigSep Finset.univ fun c => bigSep Finset.univ fun i => Φ (xr c (f i)) i :=
  ((bigSep_univ_prod fun p : Dev nD × I => Φ p.1 p.2).symm.trans (bigSep_univ_equiv (hop f) fun p : Dev nD × I => Φ p.1 p.2)).trans
    (bigSep_univ_prod fun p : Dev nD × I => Φ (xr p.1 (f p.2)) p.2)

/-- Where a duty's payer is. -/
def payer : TokIx → Dev nD
  | .inl (_, d) => dir d
  | .inr (false, _) => 0
  | .inr (true, gs) => peer gs

theorem sep_swap (A B C D : sProp 𝕄) : iprop((A ∗ B) ∗ C ∗ D) = iprop(C ∗ D ∗ A ∗ B) := by
  have h1 : iprop((A ∗ B) ∗ C ∗ D) ⊢ iprop(C ∗ D ∗ A ∗ B) := by
    iintro ⟨⟨H1, H2⟩, H3, H4⟩
    isplitl [H3]; · iexact H3
    isplitl [H4]; · iexact H4
    isplitl [H1]; · iexact H1
    iexact H2
  have h2 : iprop(C ∗ D ∗ A ∗ B) ⊢ iprop((A ∗ B) ∗ C ∗ D) := by
    iintro ⟨H3, H4, H1, H2⟩
    isplitl [H1 H2]
    · isplitl [H1]; · iexact H1
      iexact H2
    isplitl [H3]; · iexact H3
    iexact H4
  exact BI.Entails.antisymm h1 h2

theorem toks_around : (bigSep Finset.univ fun c : Dev nD => bigSep Finset.univ (tok (F := F) c)) = bigSep Finset.univ fun c : Dev nD => payToks c := by
  rw [deal_hop payer]
  refine bigSep_congr fun c _ => ?_
  have h0 : (bigSep Finset.univ fun gs : GS => tok (F := F) (xr c (payer (.inr (false, gs)))) (.inr (false, gs)))
      = bigSep Finset.univ fun gs : GS => dutyTok ER (kcell (c, sndK gs)) 0 0 :=
    bigSep_congr fun gs _ => by show tok (xr c 0) _ = _; rw [xr_zero]; rfl
  have hb {A : Type} [Fintype A] (Ψ : Bool × A → sProp 𝕄) : bigSep Finset.univ Ψ
      = iprop((bigSep Finset.univ fun a => Ψ (false, a)) ∗ bigSep Finset.univ fun a => Ψ (true, a)) := by
    rw [bigSep_univ_prod, bigSep_univ_eq_bigSepL [false, true] (by decide) (by decide)]; rfl
  rw [bigSep_univ_sum, hb, hb, h0]
  unfold payToks
  exact sep_swap _ _ _ _

theorem ghost_intro (K : Dev nD × Cell → ℕ) (c : Dev nD) : iprop(recs m ρ K ∗ linear c) ⊢ G' (F := F) m ρ c := by
  unfold G'
  iintro H
  iexists K
  iexact H

theorem regroup :
    (bigSep Finset.univ fun c : Dev nD => iprop((bigSep Finset.univ fun k : Cell => iprop(∃ κ : ℕ, cellInv ER (rd m ρ) κ (kcell (c, k))))
          ∗ (bigSep Finset.univ fun k : Cell => reached ER (kcell (c, k)) 0) ∗ posAt c 0 ∗ bigSep Finset.univ (tok c)) : sProp 𝕄)
      ⊢ bigSep Finset.univ (G' m ρ) := by
  rw [bigSep_sep', bigSep_sep', bigSep_sep', toks_around, ← bigSep_univ_prod (fun ck : Dev nD × Cell => iprop(∃ κ : ℕ, cellInv ER (rd m ρ) κ (kcell ck))),
    ← bigSep_univ_prod (fun ck : Dev nD × Cell => (reached ER (kcell ck) 0 : sProp 𝕄))]
  iintro ⟨HI, #Hr, Hat, Htk⟩
  ihave HK := (bigSep_exists_pi Finset.univ (fun (ck : Dev nD × Cell) (κ : ℕ) => (cellInv ER (rd m ρ) κ (kcell ck) : sProp 𝕄))) $$ HI
  icases HK with ⟨%K, #HI⟩
  have hR : iprop((bigSep Finset.univ fun ck : Dev nD × Cell => cellInv ER (rd m ρ) (K ck) (kcell ck)) ∗ bigSep Finset.univ fun ck : Dev nD × Cell => reached ER (kcell ck) 0)
      ⊢ recs (F := F) m ρ K := Entails.of_eq (by unfold recs; rw [bigSep_sep'])
  have hL : iprop((bigSep Finset.univ fun c : Dev nD => posAt c 0) ∗ bigSep Finset.univ fun c : Dev nD => payToks c)
      ⊢ (bigSep Finset.univ fun c : Dev nD => linear (F := F) c) := Entails.of_eq (by unfold linear; rw [bigSep_sep'])
  have hG : iprop(recs m ρ K ∗ bigSep Finset.univ fun c : Dev nD => linear (F := F) c) ⊢ bigSep Finset.univ (G' m ρ) :=
    bigSep_with_persistent fun c _ => ghost_intro m ρ K c
  iapply hG
  isplitr
  · iapply hR
    isplitl; · iexact HI
    iexact Hr
  · iapply hL
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

/-! ## The credits at launch -/

theorem owe_sum {I : Type} (S : Finset I) (f : I → Dev nD) (k : I → Cell) (n : I → ℕ) (c : Dev nD) (k₀ : Cell) :
    ∑ d : Dev nD, (∑ i ∈ S, tallyAt (kcell (xr d (f i), k i)) () (n i) : CellTallies nD τ sig Unit) (kcell (c, k₀)) ()
      = ∑ i ∈ S, if k i = k₀ then n i else 0 := by
  have h : ∀ d : Dev nD, (∑ i ∈ S, tallyAt (kcell (xr d (f i), k i)) () (n i) : CellTallies nD τ sig Unit) (kcell (c, k₀)) ()
      = ∑ i ∈ S, if xr d (f i) = c ∧ k i = k₀ then n i else 0 := fun d => by
    rw [Finset.sum_apply, Finsupp.finset_sum_apply]
    refine Finset.sum_congr rfl fun i _ => ?_
    rw [tallyAt_apply]
    refine if_congr ⟨fun h => ?_, fun h => ?_⟩ rfl rfl
    · have := kcell_injective h.1; exact ⟨(congrArg Prod.fst this).symm, (congrArg Prod.snd this).symm⟩
    · rw [h.1, h.2]; exact ⟨rfl, rfl⟩
  rw [Finset.sum_congr rfl fun d _ => h d, Finset.sum_comm]
  refine Finset.sum_congr rfl fun i _ => ?_
  refine ((across (f i)).sum_comp fun d => if d = c ∧ k i = k₀ then n i else 0).trans ?_
  by_cases hk : k i = k₀
  · simp [hk]
  · simp [hk]

theorem owed_at (c : Dev nD) (k₀ : Cell) : ∑ d : Dev nD, O₀ d (kcell (c, k₀)) ()
    = (∑ gs : GS, if rcvK gs = k₀ then crd gs.1 else 0) + (∑ _d : Fin 3, if ackK = k₀ then 1 else 0) + ∑ _d : Fin 3, if barK = k₀ then 1 else 0 := by
  rw [← owe_sum Finset.univ peer rcvK (fun gs => crd gs.1) c k₀, ← owe_sum Finset.univ dir (fun _ => ackK) (fun _ => 1) c k₀,
    ← owe_sum Finset.univ dir (fun _ => barK) (fun _ => 1) c k₀, ← Finset.sum_add_distrib, ← Finset.sum_add_distrib]
  rfl

theorem launch_at (c : Dev nD) (k : Cell) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem csem_injective : Function.Injective csem := fun a b h => Option.some.inj ((dec_csem a).symm.trans ((congrArg dec h).trans (dec_csem b)))

theorem creds (c : Dev nD) : (Pipeline.launchCred O₀ c : sProp 𝕄) ⊢ credsOf (F := F) c := by
  unfold Pipeline.launchCred credsOf
  refine BIBase.Entails.trans (bigSep_subset (Finset.subset_univ (Finset.univ.map ⟨csem, csem_injective⟩))) ?_
  rw [bigSep_map]
  refine BIBase.Entails.trans (Entails.of_eq (cells_split (F := F) fun k => cred (tallyOn (kcell (c, k)) (launchCredit (Pipeline.owing O₀) 0 (kcell (c, k)))))) ?_
  rw [launch_at c barK 3 (by rw [owed_at]; simp), launch_at c ackK 3 (by rw [owed_at]; simp),
    bigSep_congr (s := Finset.univ) fun gs _ => congrArg cred (launch_at c (rcvK gs) (crd gs.1) (by rw [owed_at]; simp))]
  iintro ⟨⟨H1, H2⟩, -, H3⟩
  isplitl [H1]; · iexact H1
  isplitl [H2]; · iexact H2
  iexact H3

/-! ## Side conditions -/

theorem rcvBufs_eq (c : Dev nD) : rcvBufs (F := F) c
    = iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) := by
  unfold rcvBufs
  rw [bigSep_univ_eq_bigSepL [0, 1, 2, 3, 4, 5] (by decide) (by decide)]
  exact congrArg₂ BIBase.sep (whole_ex c cc0_scratch2) (congrArg₂ BIBase.sep (whole_ex c cc0_scratch3) (congrArg₂ BIBase.sep (whole_ex c cc0_scratch4)
    (congrArg₂ BIBase.sep (whole_ex c cc0_scratch5) (congrArg₂ BIBase.sep (whole_ex c cc0_scratch6) (whole_ex c cc0_scratch7)))))

theorem scratch_eq (c : Dev nD) : scratch (F := F) c = Pipeline.scopedRest cfg0.spec c := by
  unfold scratch
  rw [rcvBufs_eq, scopedRest0_eq]
  exact congrArg₂ BIBase.sep (whole_ex c cc0_scratch0) (congrArg₂ BIBase.sep (whole_ex c cc0_scratch1) rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (F := F) m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = Φ₀ m ρ c from rfl, ← scratch_eq]
  unfold Φ₀
  iintro ⟨Hs, -, Hr⟩
  isplitl [Hs]; · iexact Hs
  iexact Hr

theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  iintro ⟨Hr, Hz⟩
  ihave Hz' := (sems0_back (F := F) c) $$ Hz
  icases Hz' with ⟨H1, H2⟩
  isplitl [H1]; · iexact H1
  isplitl [H2]; · iexact H2
  iexact Hr

theorem levOf_pos (k : Cell) : 0 < levOf k := by revert k; decide

theorem stage_may (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O :=
  mayWait_of c sm O fun g u hg => by
    rw [h0]
    rcases hO with rfl | rfl
    · rcases add_pos' hg with h | h
      · rcases add_pos' h with h | h
        · obtain ⟨gs, -, rfl⟩ := Osend_pos h; exact ⟨_, _, rfl, levOf_pos _⟩
        · obtain ⟨d, -, rfl⟩ := Ohand_pos h; exact ⟨_, _, rfl, levOf_pos _⟩
      · obtain ⟨d, -, rfl⟩ := Ohand_pos h; exact ⟨_, _, rfl, levOf_pos _⟩
    · exact absurd hg (Nat.lt_irrefl 0)

theorem waits (c : Dev nD) : (levAts L lv : sProp 𝕄) ⊢ Pipeline.cellsWaits cfgs (dats (F := F) m ρ) () 0 c :=
  Pipeline.cellsWaits_intro cfgs (dats m ρ) () 0 c fun w s t =>
    stage_may c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every fair run of the eight devices ends, with each
    device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end

end
-- ==== Proof.Frames.lean ====
/- The frames: every argument ends as it started. -/
module

public import proofs.«01_k».proof.Proof.Launch
public import proofs.«01_k».proof.Defs

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- An operand's array after the run holds what it held. -/
theorem kept (r : PUnit × MemSt nD τ sig (Elt F)) (h : QC m ρ r) (c : Dev nD) (w : Fin cfg0.W) (hw : (cfg0.win w).isOut = false) :
    r.2.mem ((cfg0.win w).arr.view.loc (c : Thread nD τ)) = m ((cfg0.win w).arr.view.loc (c : Thread nD τ)) :=
  (h c w).trans ((dats (F := F) m ρ 0 c).arrAt_in w hw _)

theorem kept_all (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨kept m ρ r h c 0 rfl, kept m ρ r h c 1 rfl, kept m ρ r h c 2 rfl, kept m ρ r h c 3 rfl⟩

theorem frame_ideal [Cert.KernelIdeal.Facts] : Cert.quiescent_KernelIdeal := fun m ρ _ =>
  (θ_run Cert.KernelIdeal.defs _ _).mono (fun r h => ⟨fun c => kept_all m ρ r h.1 c, h.2⟩) (run_main (F := Ideal) m ρ)

/-- The frame at bit-exact floats, of the second program. -/
def FrameBits [Cert.KernelIdeal.Facts] : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0)

theorem frameBits [Cert.KernelIdeal.Facts] : FrameBits := fun m ρ _ =>
  (θ_run Cert.KernelIdeal.defs _ _).mono (fun r h => ⟨fun c => kept_all m ρ r h.1 c, h.2⟩) (run_main (F := Bits) m ρ)

/-- The two programs have the same text, so they make the same claim. -/
theorem same_frame [Cert.Kernel.Facts] [Cert.KernelIdeal.Facts] : Cert.quiescent_Kernel = FrameBits := by
  chain_rfl

theorem frame_kernel [Cert.Kernel.Facts] [Cert.KernelIdeal.Facts] : Cert.quiescent_Kernel := same_frame ▸ frameBits

end Cert.KernelIdeal.Run

end

end
-- ==== Proof.Value.lean ====
/- What the kernel's result array holds over the extended reals: on each device the sum, over all eight
   devices, of their products for that device's chunk, scaled and cut off below at zero. -/
module

public import proofs.«01_k».proof.Proof.Frames
public import Idealize.ShloMosaic.Lib.Pointwise

@[expose] public section

noncomputable section

namespace Cert.KernelIdeal.Run

open Idealize.ShloMosaic Idealize.ShloMosaic.StableHlo
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section Array

variable {F : FTy → Type} [FloatOps F]
variable (m : (ℓ : Loc nD τ sig) → Buf (Elt F) ℓ) (ρ : Dev nD → PrngReg)

/-! ## Every window is its whole array -/

theorem at0 (j : S4096x512.Idx) : (win0_0.blk (0 : Fin 1)).view.emb j = j :=
  funext fun a => Fin.ext (show 0 * _ + 1 * (j a).val = (j a).val by omega)
theorem at1 (j : S512x2048.Idx) : (win0_1.blk (0 : Fin 1)).view.emb j = j :=
  funext fun a => Fin.ext (show 0 * _ + 1 * (j a).val = (j a).val by omega)
theorem at2 (j : S1.Idx) : (win0_2.blk (0 : Fin 1)).view.emb j = j :=
  funext fun a => Fin.ext (show 0 * _ + 1 * (j a).val = (j a).val by omega)
theorem at3 (j : S1.Idx) : (win0_3.blk (0 : Fin 1)).view.emb j = j :=
  funext fun a => Fin.ext (show 0 * _ + 1 * (j a).val = (j a).val by omega)
theorem at4 (t : Fin cfg0.N) (j : S512x2048.Idx) : ((cfg0.win 4).blk t).view.emb j = j :=
  funext fun a => Fin.ext (show 0 * _ + 1 * (j a).val = (j a).val by omega)

theorem xstg_eq (c : Dev nD) : xstg m ρ c = m ((c : Thread nD τ).loc main_arg0) :=
  funext fun j => congrArg (m ((c : Thread nD τ).loc main_arg0)) (at0 j)
theorem wstg_eq (c : Dev nD) : wstg m ρ c = m ((c : Thread nD τ).loc main_arg1) :=
  funext fun j => congrArg (m ((c : Thread nD τ).loc main_arg1)) (at1 j)
theorem sxstg_eq (c : Dev nD) : sxstg m ρ c = m ((c : Thread nD τ).loc main_arg2) :=
  funext fun j => congrArg (m ((c : Thread nD τ).loc main_arg2)) (at2 j)
theorem swstg_eq (c : Dev nD) : swstg m ρ c = m ((c : Thread nD τ).loc main_arg3) :=
  funext fun j => congrArg (m ((c : Thread nD τ).loc main_arg3)) (at3 j)

/-- The result's array after the run is what the body leaves in its buffer. -/
theorem result (r : PUnit × MemSt nD τ sig (Elt F)) (h : QC m ρ r) (c : Dev nD) :
    r.2.mem ((c : Thread nD τ).loc main_v1) = outAt m ρ c :=
  (h c 4).trans ((dats (F := F) m ρ 0 c).arrAt_eq_of_cover 4 (outAt m ρ c)
    (fun t _ => funext fun j => congrArg (outAt m ρ c) (at4 t j).symm) fun i =>
    ⟨⟨0, by decide⟩, flush0_4 _, by
      have h := ((cfg0.win 4).blk (⟨0, by decide⟩ : Fin cfg0.N)).view.emb_mem_set i; rwa [at4] at h⟩)

/-- A row of a result lies in its group at some row of the group. -/
theorem out_row (i : Fin 512) : ∃ (g : Fin 6) (r : Fin (rlen g)), roff g + r.val = i.val := by
  obtain ⟨h1, h2⟩ := (grpOf_iff i.isLt (grpOf i.val)).mpr rfl
  exact ⟨grpOf i.val, ⟨i.val - roff (grpOf i.val), by omega⟩, by show roff _ + (i.val - roff _) = _; omega⟩

end Array

/-! ## Over the extended reals -/

variable (m : (ℓ : Loc nD τ sig) → Buf (Elt Ideal) ℓ) (ρ : Dev nD → PrngReg)

/-- Device `c`'s columns of the left operand, its rows of the right one. -/
def xa (c : Dev nD) : Vec Ideal S4096x512 .fp8e4m3 := m ((c : Thread nD τ).loc main_arg0)
def wa (c : Dev nD) : Vec Ideal S512x2048 .fp8e4m3 := m ((c : Thread nD τ).loc main_arg1)

/-- The two scales it is given. -/
def sxa (c : Dev nD) : Vec Ideal S1 .f32 := m ((c : Thread nD τ).loc main_arg2)
def swa (c : Dev nD) : Vec Ideal S1 .f32 := m ((c : Thread nD τ).loc main_arg3)

theorem row_lt (j : Dev nD) (i : Fin 512) : 512 * j.val + i.val < 4096 := by
  have h : j.val < 8 := j.isLt
  omega

/-- An entry of device `c`'s product for chunk `j`. -/
def part (c j : Dev nD) (i : Fin 512) (n : Fin 2048) : Ideal .f32 :=
  ∑ k : Fin 512, xa m c (ix2 ⟨512 * j.val + i.val, row_lt j i⟩ k) * wa m c (ix2 k n)

theorem gemm_apply (a : Vec Ideal S512x512 .fp8e4m3) (b : Vec Ideal S512x2048 .fp8e4m3) (i : Fin 512) (n : Fin 2048) :
    gemmV a (k0_pay1 b) (ix3 (0 : Fin 1) i n) = ∑ k : Fin 512, a (ix2 i k) * b (ix2 k n) := by
  unfold gemmV
  pointwise [k0_pay6, k0_pay1]

theorem chunk_apply (c j : Dev nD) (i : Fin 512) (n : Fin 2048) : chunkV m ρ c j (ix3 (0 : Fin 1) i n) = part m c j i n := by
  unfold chunkV part
  rw [gemm_apply, xstg_eq, wstg_eq]
  refine Finset.sum_congr rfl fun k _ => congrArg (· * wa m c (ix2 k n)) ?_
  refine congrArg (xa m c) (funext fun a => Fin.ext ?_)
  fin_cases a
  · show 512 * j.val + 1 * i.val = 512 * j.val + i.val; omega
  · show 0 + 1 * k.val = k.val; omega

theorem comb_apply (g : Fin 6) (a b : Vec Ideal (P3 g) .bf16) (z : Fin 1) (r : Fin (rlen g)) (n : Fin 2048) :
    comb g a b (ix3 z r n) = a (ix3 z r n) + b (ix3 z r n) := by
  unfold comb
  pointwise

theorem flat_apply (g : Fin 6) (a : Vec Ideal (P3 g) .bf16) (r : Fin (rlen g)) (n : Fin 2048) :
    (shapeCast (P2 g) a (P3_P2 g) : FVec Ideal (P2 g) .bf16) (ix2 r n) = a (ix3 (0 : Fin 1) r n) :=
  (shapeCast_dropUnit_apply ![rlen g, 2048] a (P3_P2 g) (ix2 r n)).trans
    (congrArg a (funext fun b => by fin_cases b <;> rfl))

theorem fin_apply (sc : Ideal .f32) (g : Fin 6) (a b : Vec Ideal (P3 g) .bf16) (r : Fin (rlen g)) (n : Fin 2048) :
    finV sc g a b (ix2 r n) = max ((a (ix3 (0 : Fin 1) r n) + b (ix3 (0 : Fin 1) r n)) * sc) 0 := by
  rw [← flat_apply g a, ← flat_apply g b]
  unfold finV
  pointwise

/-- A row of a group, as a row of the chunk. -/
theorem grp_lt (g : Fin 6) (r : Fin (rlen g)) : roff g + r.val < 512 := by
  have h := r.isLt
  have e : roff g + rlen g ≤ 512 := by revert g; decide
  omega

theorem base_apply (g : Fin 6) (c j : Dev nD) (r : Fin (rlen g)) (n : Fin 2048) :
    val m ρ g 1 c j (ix3 (0 : Fin 1) r n) = part m c j ⟨roff g + r.val, grp_lt g r⟩ n := by
  refine Eq.trans ?_ (chunk_apply m ρ c j ⟨roff g + r.val, grp_lt g r⟩ n)
  refine congrArg (chunkV m ρ c j) (funext fun a => Fin.ext ?_)
  fin_cases a
  · rfl
  · show roff g + 1 * r.val = roff g + r.val; omega
  · show 0 + 1 * n.val = n.val; omega

theorem two_apply (g : Fin 6) (c j : Dev nD) (r : Fin (rlen g)) (n : Fin 2048) :
    val m ρ g 2 c j (ix3 (0 : Fin 1) r n) = val m ρ g 1 c j (ix3 (0 : Fin 1) r n) + val m ρ g 1 (xr c (maskOf g 1)) j (ix3 (0 : Fin 1) r n) := by
  rw [val_succ m ρ g 1 (by decide), comb_apply]

theorem three_apply (g : Fin 6) (c j : Dev nD) (r : Fin (rlen g)) (n : Fin 2048) :
    val m ρ g 3 c j (ix3 (0 : Fin 1) r n) = val m ρ g 2 c j (ix3 (0 : Fin 1) r n) + val m ρ g 2 (xr c (maskOf g 2)) j (ix3 (0 : Fin 1) r n) := by
  rw [val_succ m ρ g 2 (by decide), comb_apply]

/-- The devices in the order in which a group's sums on device `c` take them in. -/
def takes (g : Fin 6) (c : Dev nD) : Fin 8 → Dev nD :=
  let a := maskOf g 1
  let b := maskOf g 2
  let e := maskOf g 3
  ![c, xr c a, xr c b, xr (xr c b) a, xr c e, xr (xr c e) a, xr (xr c e) b, xr (xr (xr c e) b) a]

theorem takes_bij (g : Fin 6) (c : Dev nD) : Function.Bijective (takes g c) := by revert g c; decide +kernel

/-- The sum of the last two pieces is the sum of all devices' products. -/
theorem total_apply (g : Fin 6) (c : Dev nD) (r : Fin (rlen g)) (n : Fin 2048) :
    val m ρ g 3 c c (ix3 (0 : Fin 1) r n) + val m ρ g 3 (xr c (maskOf g 3)) c (ix3 (0 : Fin 1) r n)
      = ∑ d : Dev nD, part m d c ⟨roff g + r.val, grp_lt g r⟩ n := by
  rw [three_apply, three_apply, two_apply, two_apply, two_apply, two_apply]
  simp only [base_apply]
  rw [← Function.Bijective.sum_comp (takes_bij g c) fun d => part m d c ⟨roff g + r.val, grp_lt g r⟩ n, Fin.sum_univ_eight]
  simp only [add_assoc]
  rfl

/-- An entry of a device's result. -/
theorem out_apply (c : Dev nD) (i : Fin 512) (n : Fin 2048) :
    outAt m ρ c (ix2 i n) = max ((∑ d : Dev nD, part m d c i n) * scal m ρ c) 0 := by
  obtain ⟨g, r, h⟩ := out_row i
  obtain rfl : i = ⟨roff g + r.val, grp_lt g r⟩ := Fin.ext h.symm
  have e : (ix2 (⟨roff g + r.val, grp_lt g r⟩ : Fin 512) n : S512x2048.Idx) = (outR g).emb (ix2 r n) := by
    funext a; apply Fin.ext
    fin_cases a
    · show roff g + r.val = roff g + 1 * r.val; omega
    · show n.val = 0 + 1 * n.val; omega
  rw [e]
  refine (Rect.glue_emb outR out_cov out_disj (fun g => resV m ρ g c) g (ix2 r n)).trans ?_
  unfold resV
  rw [fin_apply, total_apply]

/-- The scale is the product of the two given ones. -/
theorem scal_eq (c : Dev nD) (z : S1.Idx) :
    scal m ρ c = sxa m c z * swa m c z := by
  have one (i : S1.Idx) : i = z := funext fun (a : Fin 1) => by
    obtain rfl : a = 0 := Subsingleton.elim _ _
    have h1 : (i 0).val < 1 := (i 0).isLt
    have h2 : (z 0).val < 1 := (z 0).isLt
    exact Fin.ext (by omega)
  unfold scal
  rw [sxstg_eq, swstg_eq]
  exact congrArg₂ (fun a b : Ideal .f32 => a * b) (congrArg (sxa m c) (one _))
    (congrArg (swa m c) (one _))

end Cert.KernelIdeal.Run

end

end
-- ==== Proof.RefValue.lean ====
/- The reference's result array as one function of its argument arrays, and that function over the extended
   reals: the product's entry, times the product of the scales, cut off below at zero. -/
module

public import proofs.«01_k».proof.Proof.Gen.ReferenceIdeal.Value
public import Idealize.ShloMosaic.Lib.Pointwise

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem

variable {F : FTy → Type} [FloatOps F]

/-- The one place of a scale. -/
def pt : S1.Idx := Shape.Idx.first (numel1_S1.symm ▸ Nat.one_pos)

theorem eq_pt (i : S1.Idx) : i = pt := funext fun (a : Fin 1) => by
  obtain rfl : a = 0 := Subsingleton.elim _ _
  have h1 : (i 0).val < 1 := (i 0).isLt
  have h2 : (pt 0).val < 1 := (pt 0).isLt
  exact Fin.ext (by omega)

/-- The reference's lines on whole arrays. -/
def lines (x : Vec F S4096x4096 .fp8e4m3) (w : Vec F S4096x2048 .fp8e4m3) (sx sw : Vec F S1 .f32) :
    Vec F S4096x2048 .f32 := k0_pay1 x w (sx pt) (sw pt)

theorem off_zero : (![0, 0] : Fin 2 → ℕ) = fun _ => 0 := by decide

/-- What the body's one store leaves. -/
theorem stored (c : Dev nD) (arg0 : Memref sig .tc .vmem S4096x4096 .fp8e4m3) (h0 : arg0.IsWhole)
    (arg1 : Memref sig .tc .vmem S4096x2048 .fp8e4m3) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x0 : Vec F S4096x4096 .fp8e4m3) (x1 : Vec F S4096x2048 .fp8e4m3) (x2 x3 : Vec F S1 .f32) :
    out0_A_4 c arg0 h0 arg1 h1 arg2 h2 arg3 h3 arg4 h4 x0 x1 x2 x3 = lines x0 x1 x2 x3 := by
  unfold out0_A_4
  rw [View.read_writes_junk_eq_canon]
  show View.canon ([⟨Rect.unit ![0, 0] S4096x2048.size inb_S4096x2048_S4096x2048_0_0, k0_pay1
    (View.readAt (Elt F) arg0.view (Rect.unit ![0, 0] S4096x4096.size inb_S4096x4096_S4096x4096_0_0).toLoadRect (h0.unread x0))
    (View.readAt (Elt F) arg1.view (Rect.unit ![0, 0] S4096x2048.size inb_S4096x2048_S4096x2048_0_0).toLoadRect (h1.unread x1))
    (View.readAt (Elt F) arg2.view (Rect.unit (s := S1) ![0] S1.size inb_S1_S1_0).toLoadRect (h2.unread x2) _)
    (View.readAt (Elt F) arg3.view (Rect.unit (s := S1) ![0] S1.size inb_S1_S1_0).toLoadRect (h3.unread x3) _)⟩] :
      List (View.Piece (Elt F) S4096x2048 .f32)) = _
  rw [View.canon_unit_zero off_zero]
  simp only [View.readAt_eq_ld, h0.read_unread, h1.read_unread, h2.read_unread, h3.read_unread]
  rw [View.ld_unit_zero off_zero, View.ld_unit_zero off_zero]
  exact congrArg₂ (k0_pay1 x0 x1) (congrArg x2 (eq_pt _)) (congrArg x3 (eq_pt _))

/-! ## Every window is its whole array -/

theorem at0 (t : Fin cfg0.N) (j : S4096x4096.Idx) : ((cfg0.win 0).blk t).view.emb j = j :=
  funext fun a => Fin.ext (show 0 * _ + 1 * (j a).val = (j a).val by omega)
theorem at1 (t : Fin cfg0.N) (j : S4096x2048.Idx) : ((cfg0.win 1).blk t).view.emb j = j :=
  funext fun a => Fin.ext (show 0 * _ + 1 * (j a).val = (j a).val by omega)
theorem at2 (t : Fin cfg0.N) (j : S1.Idx) : ((cfg0.win 2).blk t).view.emb j = j :=
  funext fun a => Fin.ext (show 0 * _ + 1 * (j a).val = (j a).val by omega)
theorem at3 (t : Fin cfg0.N) (j : S1.Idx) : ((cfg0.win 3).blk t).view.emb j = j :=
  funext fun a => Fin.ext (show 0 * _ + 1 * (j a).val = (j a).val by omega)
theorem at4 (t : Fin cfg0.N) (j : S4096x2048.Idx) : ((cfg0.win 4).blk t).view.emb j = j :=
  funext fun a => Fin.ext (show 0 * _ + 1 * (j a).val = (j a).val by omega)

variable (m : (ℓ : Loc nD τ sig) → Buf (Elt F) ℓ) (ρ : Dev nD → PrngReg)

theorem in0 (c : Dev nD) (t : Fin cfg0.N) : iblk m c 0 t = m ((c : Thread nD τ).loc main_arg0) :=
  funext fun j => congrArg (m ((c : Thread nD τ).loc main_arg0)) (at0 t j)
theorem in1 (c : Dev nD) (t : Fin cfg0.N) : iblk m c 1 t = m ((c : Thread nD τ).loc main_arg1) :=
  funext fun j => congrArg (m ((c : Thread nD τ).loc main_arg1)) (at1 t j)
theorem in2 (c : Dev nD) (t : Fin cfg0.N) : iblk m c 2 t = m ((c : Thread nD τ).loc main_arg2) :=
  funext fun j => congrArg (m ((c : Thread nD τ).loc main_arg2)) (at2 t j)
theorem in3 (c : Dev nD) (t : Fin cfg0.N) : iblk m c 3 t = m ((c : Thread nD τ).loc main_arg3) :=
  funext fun j => congrArg (m ((c : Thread nD τ).loc main_arg3)) (at3 t j)

/-- The result as a function of the launched arguments. -/
def res (c : Dev nD) : Vec F S4096x2048 .f32 :=
  lines (m ((c : Thread nD τ).loc main_arg0)) (m ((c : Thread nD τ).loc main_arg1)) (m ((c : Thread nD τ).loc main_arg2))
    (m ((c : Thread nD τ).loc main_arg3))

theorem written (c : Dev nD) (t : Fin cfg0.N) :
    (dats m 0 c).flushed 4 t = ((cfg0.win 4).blk t).view.read (Elt F) (res m c) := by
  rw [flushed4_A, stored, in0, in1, in2, in3]
  exact funext fun j => congrArg (res m c) (at4 t j).symm

theorem array (c : Dev nD) : (dats m 0 c).arrAt 4 cfg0.N = res m c :=
  (dats m 0 c).arrAt_eq_of_cover 4 (res m c) (fun t _ => written m c t) fun i =>
    ⟨⟨0, by decide⟩, flush0_4 _, by
      have h := ((cfg0.win 4).blk (⟨0, by decide⟩ : Fin cfg0.N)).view.emb_mem_set i; rwa [at4] at h⟩

/-- The reference's run: the result is the lines on the arguments, which are kept. -/
theorem run : θ_run defs (onTc (τ := τ) (main (F := F))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (array m c), (h c).2⟩) (run_blocks m ρ)

/-! ## Over the extended reals -/

/-- An entry of the result. -/
theorem lines_apply (x : Vec Ideal S4096x4096 .fp8e4m3) (w : Vec Ideal S4096x2048 .fp8e4m3) (sx sw : Vec Ideal S1 .f32)
    (i : Fin 4096) (j : Fin 2048) :
    lines x w sx sw (ix2 i j) = max ((∑ k : Fin 4096, x (ix2 i k) * w (ix2 k j)) * (sx pt * sw pt)) 0 := by
  unfold lines
  pointwise [k0_pay1]

end Cert.ReferenceIdeal.Whole

end

end
-- ==== Proof.Algebraic.lean ====
/- The kernel's results are the blocks of the reference's: the sum over eight devices of their products is the
   one product's sum, cut into eight. -/
module

public import proofs.«01_k».proof.Proof.Value
public import proofs.«01_k».proof.Proof.RefValue
public import Idealize.ShloMosaic.Lib.Pipeline.ValueKit.Acc

@[expose] public section

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem wide_lt (d : Dev nD) (k : Fin 512) : d.val * 512 + k.val < 4096 := by
  have h : d.val < 8 := d.isLt
  omega

/-- A device's result is its block of the reference's. -/
theorem block_eq (X : Vec Ideal Cert.ReferenceIdeal.S4096x4096 .fp8e4m3) (W : Vec Ideal Cert.ReferenceIdeal.S4096x2048 .fp8e4m3) (sx sw : Vec Ideal S1 .f32)
    (h : ∀ c : Dev nD, xa m c = Layout.block ⟨2, ![4096, 512]⟩ ⟨2, ![4096, 4096]⟩ 1 8 c X
      ∧ wa m c = Layout.block ⟨2, ![512, 2048]⟩ ⟨2, ![4096, 2048]⟩ 0 8 c W ∧ sxa m c = sx ∧ swa m c = sw) (c : Dev nD) :
    outAt m ρ c = Layout.block ⟨2, ![512, 2048]⟩ ⟨2, ![4096, 2048]⟩ 0 8 c (Cert.ReferenceIdeal.Whole.lines X W sx sw) := by
  have hx (d : Dev nD) (i : Fin 4096) (k : Fin 512) : xa m d (ix2 i k) = X (ix2 i ⟨d.val * 512 + k.val, wide_lt d k⟩) := by
    rw [(h d).1, Layout.block_apply]
    exact congrArg X (funext fun a => Fin.ext (by fin_cases a <;> rfl))
  have hw (d : Dev nD) (k : Fin 512) (n : Fin 2048) : wa m d (ix2 k n) = W (ix2 ⟨d.val * 512 + k.val, wide_lt d k⟩ n) := by
    rw [(h d).2.1, Layout.block_apply]
    exact congrArg W (funext fun a => Fin.ext (by fin_cases a <;> rfl))
  funext p
  obtain ⟨i, n, rfl⟩ : ∃ (i : Fin 512) (n : Fin 2048), p = ix2 i n := ⟨p 0, p 1, eq_ix2 p⟩
  have hi : 512 * c.val + i.val < 4096 := row_lt c i
  rw [out_apply, Layout.block_apply, scal_eq m ρ c Cert.ReferenceIdeal.Whole.pt, (h c).2.2.1, (h c).2.2.2]
  have e : (Layout.Tiles.idx (by decide : Layout.Tiles ⟨2, ![512, 2048]⟩ ⟨2, ![4096, 2048]⟩ 0 8) c (ix2 i n) : Cert.ReferenceIdeal.S4096x2048.Idx)
      = ix2 (⟨512 * c.val + i.val, hi⟩ : Fin 4096) n :=
    funext fun a => Fin.ext (by
      fin_cases a
      · show c.val * 512 + i.val = 512 * c.val + i.val; omega
      · rfl)
  rw [e, Cert.ReferenceIdeal.Whole.lines_apply]
  refine congrArg (fun s : Ideal .f32 => max (s * (sx _ * sw _)) 0) ?_
  unfold part
  simp only [hx, hw]
  exact Fin.sum_mul_add_fin 8 512 (fun l : Fin 4096 => X (ix2 ⟨512 * c.val + i.val, hi⟩ l) * W (ix2 l n)) rfl

/-- The kernel and the reference compute the same function. -/
theorem algebraic [Cert.KernelIdeal.Facts] [Cert.ReferenceIdeal.Facts] : Cert.algebraic_KernelIdeal_ReferenceIdeal :=
  fun m g m' g' _ hag =>
  ⟨Cert.ReferenceIdeal.Whole.res m' 0,
    (θ_run Cert.KernelIdeal.defs _ _).mono (fun r h c =>
      ⟨(result m g r h.1 c).trans (block_eq m g _ _ _ _ hag c), kept_all m g r h.1 c⟩) (run_main (F := Ideal) m g),
    (θ_run Cert.ReferenceIdeal.defs _ _).mono (fun r h => h 0) (Cert.ReferenceIdeal.Whole.run m' g')⟩

end Cert.KernelIdeal.Run

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference leaves its arguments unchanged and its counters at zero. -/
theorem frame_reference : Cert.quiescent_ReferenceIdeal (hReferenceIdeal := Cert.ReferenceIdeal.Gen.facts) :=
  fun m ρ _ => Cert.ReferenceIdeal.Gen.frame m ρ

theorem claim : Cert.Claim := ⟨Cert.Kernel.Gen.facts, Cert.KernelIdeal.Gen.facts, Cert.ReferenceIdeal.Gen.facts, by
  letI := Cert.Kernel.Gen.facts
  letI := Cert.KernelIdeal.Gen.facts
  letI := Cert.ReferenceIdeal.Gen.facts
  exact ⟨Cert.KernelIdeal.Run.frame_kernel, Cert.KernelIdeal.Run.frame_ideal, frame_reference, trivial, Cert.KernelIdeal.Run.algebraic⟩⟩

end Cert.Proof

end
